-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨4, ![2, 64, 64, 64]⟩ ⟨4, ![2, 1024, 64, 64]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨4, ![2, 64, 64, 128]⟩ ⟨4, ![2, 1024, 64, 128]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S2x64x64x64 : Shape := ⟨4, ![2, 64, 64, 64]⟩
abbrev S64x128 : Shape := ⟨2, ![64, 128]⟩
abbrev S_ : Shape := ⟨0, ![]⟩

class Facts : Prop where
  bcast_S_S2x64x64x64 : S_.BroadcastsInDim S2x64x64x64 (![] : Fin 0 → Fin S2x64x64x64.rank)

variable [Facts]

def fn {F : FTy → Type} [FloatOps F] (main_arg0 : FVec F S2x64x64x64 .f32) (main_arg1 : FVec F S64x128 .f32) : IVec S2x64x64x64 1 :=
  let main_v0 : FVec F S2x64x64x64 .f32 := Host.absf main_arg0
  let main_cst : FVec F S_ .f32 := constant S_ .f32 0x7F800000#32
  let main_v1 : FVec F S2x64x64x64 .f32 := broadcastInDim S2x64x64x64 ![] bcast_S_S2x64x64x64 main_cst
  let main_v2 : IVec S2x64x64x64 1 := cmpf .olt main_v0 main_v1
  main_v2
-- ==== Pre_finite_x_ReferenceIdeal.lean ====
abbrev S2x1024x64x64 : Shape := ⟨4, ![2, 1024, 64, 64]⟩
abbrev S64x128 : Shape := ⟨2, ![64, 128]⟩
abbrev S_ : Shape := ⟨0, ![]⟩

class Facts : Prop where
  bcast_S_S2x1024x64x64 : S_.BroadcastsInDim S2x1024x64x64 (![] : Fin 0 → Fin S2x1024x64x64.rank)

variable [Facts]

def fn {F : FTy → Type} [FloatOps F] (main_arg0 : FVec F S2x1024x64x64 .f32) (main_arg1 : FVec F S64x128 .f32) : IVec S2x1024x64x64 1 :=
  let main_v0 : FVec F S2x1024x64x64 .f32 := Host.absf main_arg0
  let main_cst : FVec F S_ .f32 := constant S_ .f32 0x7F800000#32
  let main_v1 : FVec F S2x1024x64x64 .f32 := broadcastInDim S2x1024x64x64 ![] bcast_S_S2x1024x64x64 main_cst
  let main_v2 : IVec S2x1024x64x64 1 := cmpf .olt main_v0 main_v1
  main_v2
-- ==== Kernel.lean ====
abbrev S2x64x64x64 : Shape := ⟨4, ![2, 64, 64, 64]⟩
abbrev S64x128 : Shape := ⟨2, ![64, 128]⟩
abbrev S2x64x64x128 : Shape := ⟨4, ![2, 64, 64, 128]⟩
abbrev S16x2x128 : Shape := ⟨3, ![16, 2, 128]⟩
abbrev S16 : Shape := ⟨1, ![16]⟩
abbrev S_ : Shape := ⟨0, ![]⟩
abbrev S2x64 : Shape := ⟨2, ![2, 64]⟩
abbrev S2x128 : Shape := ⟨2, ![2, 128]⟩
abbrev S1x2x128 : Shape := ⟨3, ![1, 2, 128]⟩
abbrev S1 : Shape := ⟨1, ![1]⟩
abbrev S2x1x1x64 : Shape := ⟨4, ![2, 1, 1, 64]⟩
abbrev S8192x64 : Shape := ⟨2, ![8192, 64]⟩
abbrev S8192x128 : Shape := ⟨2, ![8192, 128]⟩

abbrev nBuf : Space → Nat
  | .hbm => 3
  | .vmem => 4
  | .smem => 0
  | _ => 0

abbrev bufTy : (tb : Table) → Fin (tcTables nBuf tb) → BufTy
  | .hbm, ⟨0, _⟩ => ⟨S2x64x64x64, .f32⟩
  | .hbm, ⟨1, _⟩ => ⟨S64x128, .f32⟩
  | .hbm, ⟨2, _⟩ => ⟨S2x64x64x128, .bf16⟩
  | .local _ .vmem, ⟨0, _⟩ => ⟨S2x64x64x64, .f32⟩
  | .local _ .vmem, ⟨1, _⟩ => ⟨S64x128, .f32⟩
  | .local _ .vmem, ⟨2, _⟩ => ⟨S2x64x64x128, .bf16⟩
  | .local _ .vmem, ⟨3, _⟩ => ⟨S16x2x128, .f32⟩
  | _, _ => ⟨S2x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v70 : Index := Scalar.indexCast v2
  let c0_64 : Index := 0#32
  let c0_65 : Index := 0#32
  ![v70.toNat, 0, 0]
def k0_off2 (d0 : Dev nD) (c1_i32_67 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v74 : BitVec 32 := Scalar.addi v2 c1_i32_67
  let c16_i32_68 : BitVec 32 := 16#32
  let v75 : BitVec 32 := Scalar.remsi v74 c16_i32_68
  ![v75.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_71 : BitVec 32 := 0#32
  let c0_i32_72 : BitVec 32 := 0#32
  ![v2.toNat, 0, 0]
def k0_dev16 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_67 : BitVec 32 := 1#32
  let v74 : BitVec 32 := Scalar.addi v2 c1_i32_67
  let c16_i32_68 : BitVec 32 := 16#32
  let v75 : BitVec 32 := Scalar.remsi v74 c16_i32_68
  let c1_i32_69 : BitVec 32 := 1#32
  let v76 : BitVec 32 := Scalar.muli v75 c1_i32_69
  let v77 : BitVec 32 := Scalar.addi c0_i32_70 v76
  v77.toNat
def k0_dev17 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_75 : BitVec 32 := 2#32
  let v86 : BitVec 32 := Scalar.addi v2 c2_i32_75
  let c16_i32_76 : BitVec 32 := 16#32
  let v87 : BitVec 32 := Scalar.remsi v86 c16_i32_76
  let c1_i32_77 : BitVec 32 := 1#32
  let v88 : BitVec 32 := Scalar.muli v87 c1_i32_77
  let v89 : BitVec 32 := Scalar.addi c0_i32_78 v88
  v89.toNat
def k0_dev18 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_83 : BitVec 32 := 3#32
  let v98 : BitVec 32 := Scalar.addi v2 c3_i32_83
  let c16_i32_84 : BitVec 32 := 16#32
  let v99 : BitVec 32 := Scalar.remsi v98 c16_i32_84
  let c1_i32_85 : BitVec 32 := 1#32
  let v100 : BitVec 32 := Scalar.muli v99 c1_i32_85
  let v101 : BitVec 32 := Scalar.addi c0_i32_86 v100
  v101.toNat
def k0_dev19 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_91 : BitVec 32 := 4#32
  let v110 : BitVec 32 := Scalar.addi v2 c4_i32_91
  let c16_i32_92 : BitVec 32 := 16#32
  let v111 : BitVec 32 := Scalar.remsi v110 c16_i32_92
  let c1_i32_93 : BitVec 32 := 1#32
  let v112 : BitVec 32 := Scalar.muli v111 c1_i32_93
  let v113 : BitVec 32 := Scalar.addi c0_i32_94 v112
  v113.toNat
def k0_dev20 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_99 : BitVec 32 := 5#32
  let v122 : BitVec 32 := Scalar.addi v2 c5_i32_99
  let c16_i32_100 : BitVec 32 := 16#32
  let v123 : BitVec 32 := Scalar.remsi v122 c16_i32_100
  let c1_i32_101 : BitVec 32 := 1#32
  let v124 : BitVec 32 := Scalar.muli v123 c1_i32_101
  let v125 : BitVec 32 := Scalar.addi c0_i32_102 v124
  v125.toNat
def k0_dev21 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_107 : BitVec 32 := 6#32
  let v134 : BitVec 32 := Scalar.addi v2 c6_i32_107
  let c16_i32_108 : BitVec 32 := 16#32
  let v135 : BitVec 32 := Scalar.remsi v134 c16_i32_108
  let c1_i32_109 : BitVec 32 := 1#32
  let v136 : BitVec 32 := Scalar.muli v135 c1_i32_109
  let v137 : BitVec 32 := Scalar.addi c0_i32_110 v136
  v137.toNat
def k0_dev22 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_115 : BitVec 32 := 7#32
  let v146 : BitVec 32 := Scalar.addi v2 c7_i32_115
  let c16_i32_116 : BitVec 32 := 16#32
  let v147 : BitVec 32 := Scalar.remsi v146 c16_i32_116
  let c1_i32_117 : BitVec 32 := 1#32
  let v148 : BitVec 32 := Scalar.muli v147 c1_i32_117
  let v149 : BitVec 32 := Scalar.addi c0_i32_118 v148
  v149.toNat
def k0_dev23 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_123 : BitVec 32 := 8#32
  let v158 : BitVec 32 := Scalar.addi v2 c8_i32_123
  let c16_i32_124 : BitVec 32 := 16#32
  let v159 : BitVec 32 := Scalar.remsi v158 c16_i32_124
  let c1_i32_125 : BitVec 32 := 1#32
  let v160 : BitVec 32 := Scalar.muli v159 c1_i32_125
  let v161 : BitVec 32 := Scalar.addi c0_i32_126 v160
  v161.toNat
def k0_dev24 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_131 : BitVec 32 := 9#32
  let v170 : BitVec 32 := Scalar.addi v2 c9_i32_131
  let c16_i32_132 : BitVec 32 := 16#32
  let v171 : BitVec 32 := Scalar.remsi v170 c16_i32_132
  let c1_i32_133 : BitVec 32 := 1#32
  let v172 : BitVec 32 := Scalar.muli v171 c1_i32_133
  let v173 : BitVec 32 := Scalar.addi c0_i32_134 v172
  v173.toNat
def k0_dev25 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_139 : BitVec 32 := 10#32
  let v182 : BitVec 32 := Scalar.addi v2 c10_i32_139
  let c16_i32_140 : BitVec 32 := 16#32
  let v183 : BitVec 32 := Scalar.remsi v182 c16_i32_140
  let c1_i32_141 : BitVec 32 := 1#32
  let v184 : BitVec 32 := Scalar.muli v183 c1_i32_141
  let v185 : BitVec 32 := Scalar.addi c0_i32_142 v184
  v185.toNat
def k0_dev26 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_147 : BitVec 32 := 11#32
  let v194 : BitVec 32 := Scalar.addi v2 c11_i32_147
  let c16_i32_148 : BitVec 32 := 16#32
  let v195 : BitVec 32 := Scalar.remsi v194 c16_i32_148
  let c1_i32_149 : BitVec 32 := 1#32
  let v196 : BitVec 32 := Scalar.muli v195 c1_i32_149
  let v197 : BitVec 32 := Scalar.addi c0_i32_150 v196
  v197.toNat
def k0_dev27 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_155 : BitVec 32 := 12#32
  let v206 : BitVec 32 := Scalar.addi v2 c12_i32_155
  let c16_i32_156 : BitVec 32 := 16#32
  let v207 : BitVec 32 := Scalar.remsi v206 c16_i32_156
  let c1_i32_157 : BitVec 32 := 1#32
  let v208 : BitVec 32 := Scalar.muli v207 c1_i32_157
  let v209 : BitVec 32 := Scalar.addi c0_i32_158 v208
  v209.toNat
def k0_dev28 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_163 : BitVec 32 := 13#32
  let v218 : BitVec 32 := Scalar.addi v2 c13_i32_163
  let c16_i32_164 : BitVec 32 := 16#32
  let v219 : BitVec 32 := Scalar.remsi v218 c16_i32_164
  let c1_i32_165 : BitVec 32 := 1#32
  let v220 : BitVec 32 := Scalar.muli v219 c1_i32_165
  let v221 : BitVec 32 := Scalar.addi c0_i32_166 v220
  v221.toNat
def k0_dev29 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_171 : BitVec 32 := 14#32
  let v230 : BitVec 32 := Scalar.addi v2 c14_i32_171
  let c16_i32_172 : BitVec 32 := 16#32
  let v231 : BitVec 32 := Scalar.remsi v230 c16_i32_172
  let c1_i32_173 : BitVec 32 := 1#32
  let v232 : BitVec 32 := Scalar.muli v231 c1_i32_173
  let v233 : BitVec 32 := Scalar.addi c0_i32_174 v232
  v233.toNat
def k0_dev30 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_179 : BitVec 32 := 15#32
  let v242 : BitVec 32 := Scalar.addi v2 c15_i32_179
  let c16_i32_180 : BitVec 32 := 16#32
  let v243 : BitVec 32 := Scalar.remsi v242 c16_i32_180
  let c1_i32_181 : BitVec 32 := 1#32
  let v244 : BitVec 32 := Scalar.muli v243 c1_i32_181
  let v245 : BitVec 32 := Scalar.addi c0_i32_182 v244
  v245.toNat
def k0_off5 (d0 : Dev nD) (c1_i32_187 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v255 : BitVec 32 := Scalar.addi v2 c1_i32_187
  let c16_i32_188 : BitVec 32 := 16#32
  let v256 : BitVec 32 := Scalar.remsi v255 c16_i32_188
  let c0_i32_191 : BitVec 32 := 0#32
  let c0_i32_192 : BitVec 32 := 0#32
  ![v256.toNat, 0, 0]
abbrev stage0_0 : Fin 1 → Memref sig .tc .vmem S2x64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64x64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x1024x64x64 : Shape := ⟨4, ![2, 1024, 64, 64]⟩
abbrev S64x128 : Shape := ⟨2, ![64, 128]⟩
abbrev S_ : Shape := ⟨0, ![]⟩
abbrev S2x64 : Shape := ⟨2, ![2, 64]⟩
abbrev S2x1x1x64 : Shape := ⟨4, ![2, 1, 1, 64]⟩
abbrev S131072x64 : Shape := ⟨2, ![131072, 64]⟩
abbrev S131072x128 : Shape := ⟨2, ![131072, 128]⟩
abbrev S2x1024x64x128 : Shape := ⟨4, ![2, 1024, 64, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x1024x64x64, .f32⟩
  | .hbm, ⟨1, _⟩ => ⟨S64x128, .f32⟩
  | .hbm, ⟨2, _⟩ => ⟨S_, .f32⟩
  | .hbm, ⟨3, _⟩ => ⟨S2x64, .f32⟩
  | .hbm, ⟨4, _⟩ => ⟨S2x1x1x64, .f32⟩
  | .hbm, ⟨5, _⟩ => ⟨S_, .f32⟩
  | .hbm, ⟨6, _⟩ => ⟨S2x1x1x64, .f32⟩
  | .hbm, ⟨7, _⟩ => ⟨S2x1x1x64, .f32⟩
  | .hbm, ⟨8, _⟩ => ⟨S_, .i32⟩
  | .hbm, ⟨9, _⟩ => ⟨S_, .f32⟩
  | .hbm, ⟨10, _⟩ => ⟨S2x64, .f32⟩
  | .hbm, ⟨11, _⟩ => ⟨S2x1x1x64, .f32⟩
  | .hbm, ⟨12, _⟩ => ⟨S_, .f32⟩
  | .hbm, ⟨13, _⟩ => ⟨S2x1x1x64, .f32⟩
  | .hbm, ⟨14, _⟩ => ⟨S2x1x1x64, .f32⟩
  | .hbm, ⟨15, _⟩ => ⟨S2x1024x64x64, .f32⟩
  | .hbm, ⟨16, _⟩ => ⟨S2x1024x64x64, .f32⟩
  | .hbm, ⟨17, _⟩ => ⟨S2x1024x64x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x64, .f32⟩
  | .hbm, ⟨23, _⟩ => ⟨S2x1x1x64, .f32⟩
  | .hbm, ⟨24, _⟩ => ⟨S2x1x1x64, .f32⟩
  | .hbm, ⟨25, _⟩ => ⟨S2x1x1x64, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x1x64, .f32⟩
  | .hbm, ⟨31, _⟩ => ⟨S2x1x1x64, .f32⟩
  | .hbm, ⟨32, _⟩ => ⟨S2x1024x64x64, .f32⟩
  | .hbm, ⟨33, _⟩ => ⟨S2x1024x64x64, .f32⟩
  | .hbm, ⟨34, _⟩ => ⟨S_, .f32⟩
  | .hbm, ⟨35, _⟩ => ⟨S2x1x1x64, .f32⟩
  | .hbm, ⟨36, _⟩ => ⟨S2x1x1x64, .f32⟩
  | .hbm, ⟨37, _⟩ => ⟨S2x1x1x64, .f32⟩
  | .hbm, ⟨38, _⟩ => ⟨S2x1024x64x64, .f32⟩
  | .hbm, ⟨39, _⟩ => ⟨S2x1024x64x64, .f32⟩
  | .hbm, ⟨40, _⟩ => ⟨S2x1024x64x64, .f32⟩
  | .hbm, ⟨41, _⟩ => ⟨S2x1024x64x64, .f32⟩
  | .hbm, ⟨42, _⟩ => ⟨S_, .f32⟩
  | .hbm, ⟨43, _⟩ => ⟨S2x1024x64x64, .f32⟩
  | .hbm, ⟨44, _⟩ => ⟨S2x1024x64x64, .f32⟩
  | .hbm, ⟨45, _⟩ => ⟨S2x1024x64x64, .f32⟩
  | .hbm, ⟨46, _⟩ => ⟨S131072x64, .f32⟩
  | .hbm, ⟨47, _⟩ => ⟨S131072x128, .f32⟩
  | .hbm, ⟨48, _⟩ => ⟨S2x1024x64x128, .f32⟩
  | .hbm, ⟨49, _⟩ => ⟨S2x1024x64x128, .bf16⟩
  | _, _ => ⟨S2x1024x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩

abbrev nD : Nat := 1
abbrev τ : Topo := Topo.v7x

variable {F : FTy → Type} [FloatOps F]
-- ==== Proof.Walk.lean ====
/-
# Walking the other devices, one a step

Every phase of the kernel meets the fifteen other devices in the same order: first the next device round, then the
one after it, and so on. `walk c n Φ Ψ` says how far device `c` has come: the devices it has met in its first `n`
steps hold `Ψ`, those still to come hold `Φ`. A step takes one device out of the one group and puts it in the other.
-/
module

public import Idealize.ShloMosaic.Lib.Pipeline.Launch
public import Idealize.ShloMosaic.Lib.Pipeline.Kit
public import Idealize.ShloMosaic.Lib.Tactic

@[expose] public section

noncomputable section

namespace Cert.Walk

open Idealize.SL Idealize.SL.RA Idealize.SL.BI
open scoped Idealize.SL.BI
open Idealize.SL.BI.BIBase Idealize.SL.BI.Laws Idealize.SL.ProofMode

/-- How many places after `c` the device `p` comes round the ring. -/
def dist (c p : Fin 16) : Nat := (p.val + 16 - c.val) % 16

/-- The devices other than `c`. -/
abbrev others (c : Fin 16) : Finset (Fin 16) := Finset.univ.erase c

theorem dist_step {c p : Fin 16} {n : Nat} (hn : n < 15) (hp : p.val = (c.val + (n + 1)) % 16) : dist c p = n + 1 := by
  unfold dist; omega

theorem dist_pos {c p : Fin 16} (h : p ≠ c) : 0 < dist c p := by
  have : p.val ≠ c.val := fun e => h (Fin.ext e)
  unfold dist; omega

theorem dist_lt (c p : Fin 16) : dist c p < 16 := by unfold dist; omega

theorem dist_inj {c p q : Fin 16} (h : dist c p = dist c q) : p = q := by
  unfold dist at h; apply Fin.ext; omega

theorem step_mem {c p : Fin 16} {n : Nat} (hn : n < 15) (hp : p.val = (c.val + (n + 1)) % 16) : p ∈ others c := by
  refine Finset.mem_erase.mpr ⟨fun e => ?_, Finset.mem_univ _⟩
  rw [e] at hp; omega

/-- A device other than the one met at step `n + 1` is on the same side of the step before and after it. -/
theorem lt_step {c p q : Fin 16} {n : Nat} (hn : n < 15) (hp : p.val = (c.val + (n + 1)) % 16) (hq : q ≠ p) :
    n < dist c q ↔ n + 1 < dist c q := by
  have h1 := dist_step hn hp
  have h2 : dist c q ≠ dist c p := fun e => hq (dist_inj e)
  omega

section Walk

variable {M : Type} [URA M]

/-- The others of `c`, the first `n` of them round the ring at `Ψ`, the rest at `Φ`. -/
def walk (c : Fin 16) (n : Nat) (Φ Ψ : Fin 16 → sProp M) : sProp M :=
  bigSep (others c) fun p => if n < dist c p then Φ p else Ψ p

/-- A walk without the device `p`. -/
def walkRest (c : Fin 16) (n : Nat) (p : Fin 16) (Φ Ψ : Fin 16 → sProp M) : sProp M :=
  bigSep ((others c).erase p) fun q => if n < dist c q then Φ q else Ψ q

theorem walk_zero (c : Fin 16) (Φ Ψ : Fin 16 → sProp M) : walk c 0 Φ Ψ = bigSep (others c) Φ :=
  bigSep_congr fun p hp => if_pos (dist_pos (Finset.ne_of_mem_erase hp))

theorem walk_full (c : Fin 16) (Φ Ψ : Fin 16 → sProp M) : walk c 15 Φ Ψ = bigSep (others c) Ψ :=
  bigSep_congr fun p _ => if_neg (by have := dist_lt c p; omega)

theorem walk_take {c p : Fin 16} {n : Nat} (hn : n < 15) (hp : p.val = (c.val + (n + 1)) % 16) (Φ Ψ : Fin 16 → sProp M) :
    walk c n Φ Ψ = iprop(Φ p ∗ walkRest c n p Φ Ψ) := by
  unfold walk walkRest
  rw [bigSep_erase (step_mem hn hp), if_pos (by rw [dist_step hn hp]; exact Nat.lt_succ_self n)]
  rfl

theorem walk_give {c p : Fin 16} {n : Nat} (hn : n < 15) (hp : p.val = (c.val + (n + 1)) % 16) (Φ Ψ : Fin 16 → sProp M) :
    walk c (n + 1) Φ Ψ = iprop(Ψ p ∗ walkRest c n p Φ Ψ) := by
  unfold walk walkRest
  rw [bigSep_erase (step_mem hn hp), if_neg (by rw [dist_step hn hp]; exact Nat.lt_irrefl _)]
  refine congrArg (fun X => iprop(Ψ p ∗ X)) (bigSep_congr fun q hq => ?_)
  have hne : q ≠ p := Finset.ne_of_mem_erase hq
  by_cases h : n < dist c q
  · rw [if_pos h, if_pos ((lt_step hn hp hne).mp h)]
  · rw [if_neg h, if_neg fun h' => h ((lt_step hn hp hne).mpr h')]

end Walk

section Owed

variable {A : Type*} [AddCommMonoid A]

/-- What is still owed to the others of `c` after `n` steps. -/
def due (c : Fin 16) (n : Nat) (f : Fin 16 → A) : A := ∑ p ∈ others c, if n < dist c p then f p else 0

theorem due_zero (c : Fin 16) (f : Fin 16 → A) : due c 0 f = ∑ p ∈ others c, f p :=
  Finset.sum_congr rfl fun p hp => if_pos (dist_pos (Finset.ne_of_mem_erase hp))

theorem due_full (c : Fin 16) (f : Fin 16 → A) : due c 15 f = 0 :=
  Finset.sum_eq_zero fun p _ => if_neg (by have := dist_lt c p; omega)

theorem due_step {c p : Fin 16} {n : Nat} (hn : n < 15) (hp : p.val = (c.val + (n + 1)) % 16) (f : Fin 16 → A) :
    due c n f = due c (n + 1) f + f p := by
  unfold due
  rw [← Finset.add_sum_erase _ _ (step_mem hn hp), ← Finset.add_sum_erase _ (fun q => if n + 1 < dist c q then f q else 0) (step_mem hn hp),
    if_pos (by rw [dist_step hn hp]; exact Nat.lt_succ_self n), if_neg (by rw [dist_step hn hp]; exact Nat.lt_irrefl _), zero_add, add_comm]
  refine congrArg (· + f p) (Finset.sum_congr rfl fun q hq => ?_)
  have hne : q ≠ p := Finset.ne_of_mem_erase hq
  by_cases h : n < dist c q
  · rw [if_pos h, if_pos ((lt_step hn hp hne).mp h)]
  · rw [if_neg h, if_neg fun h' => h ((lt_step hn hp hne).mpr h')]

end Owed

end Cert.Walk

end
-- ==== Proof.KernelIdealRing.lean ====
/-
# The exchange of moments: cells, rows and schedule

Each of the sixteen devices writes the sums of its own block of `x` (and of the squares) into its own row of the
16-row buffer, tells every other device through the barrier that it has entered, waits for the other fifteen, copies
its row into the same row of every other device's buffer, and waits until the fifteen other rows have landed.

* The barrier cell of a device has one duty for each other device `d`: one unit, and with it the row of `d`'s own buffer
  into which the cell's owner will write.
* Send cell `t` of device `c` has one duty, paid when the copy to device `t` has read its source: the share of row `c` it
  was reading comes back.
* Receive cell `s` of device `c` has one duty, paid when row `s` has landed: the row, holding device `s`'s sums.

Device `c` has send cell `c` and receive cell `c` too; nothing is ever sent or received there and they have no duty.
-/
module

public import proofs.«01_k».proof.Proof.Walk
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.ShareLeaves
public import Idealize.ShloMosaic.Lib.Ring
public import Idealize.ShloMosaic.Lib.Rounds.Family

@[expose] public section

noncomputable section

namespace Cert.KernelIdeal.Ring

open Cert.KernelIdeal Cert.KernelIdeal.Gen Cert.Walk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the exchange's, a duty named by the device that pays it -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Semaphores and cells -/

/-- The barrier semaphore, the send semaphore for the copy to `t`, the receive semaphore for the row of `s`. -/
abbrev barS : Sem sig := (SemArray.scalar (sig.barrier 0 rfl) : Sems sig S_).sem
def sendQ (t : Dev nD) : DmaSem sig := ⟨3 + t.val, by have : t.val < 16 := t.isLt; show 3 + t.val < 35; omega⟩
def recvQ (s : Dev nD) : DmaSem sig := ⟨19 + s.val, by have : s.val < 16 := s.isLt; show 19 + s.val < 35; omega⟩

abbrev barCell (c : Dev nD) : GSem nD τ sig := ((c : Thread nD τ), .reg barS)
abbrev sendCell (c t : Dev nD) : GSem nD τ sig := ((c : Thread nD τ), .dma (sendQ t))
abbrev recvCell (c s : Dev nD) : GSem nD τ sig := ((c : Thread nD τ), .dma (recvQ s))

/-- What a semaphore is for. -/
inductive Role where
  | bar
  | send (t : Dev nD)
  | recv (s : Dev nD)
  | other
  deriving DecidableEq

def role : SemLoc sig → Role
  | .reg s => if s = barS then .bar else .other
  | .dma q => if q.val < 3 then .other else if q.val < 19 then .send ⟨(q.val - 3) % 16, Nat.mod_lt _ (by decide)⟩
      else .recv ⟨(q.val - 19) % 16, Nat.mod_lt _ (by decide)⟩

theorem role_bar : role (.reg barS) = .bar := by decide
theorem role_send (t : Dev nD) : role (.dma (sendQ t)) = .send t := by revert t; decide
theorem role_recv (s : Dev nD) : role (.dma (recvQ s)) = .recv s := by revert s; decide

theorem sendQ_inj {t t' : Dev nD} (h : sendQ t = sendQ t') : t = t' := by
  have := role_send t; rw [h, role_send] at this; injection this with h'; exact h'.symm
theorem recvQ_inj {s s' : Dev nD} (h : recvQ s = recvQ s') : s = s' := by
  have := role_recv s; rw [h, role_recv] at this; injection this with h'; exact h'.symm

/-- The program's semaphores are these: it slices the array at a device's number and squeezes. -/
theorem sendQ_eq (t : Dev nD) (off : Fin 1 → Nat) (h : off = ![t.val]) (inb : ∀ a, off a + S1.size a ≤ S16.size a) :
    ((cc0_scratch1.slice (Rect.unit (s := S16) off S1.size inb)).squeeze S_ squeezes_S1_S_).sem = sendQ t := by
  subst h; revert t; decide
theorem recvQ_eq (s : Dev nD) (off : Fin 1 → Nat) (h : off = ![s.val]) (inb : ∀ a, off a + S1.size a ≤ S16.size a) :
    ((cc0_scratch2.slice (Rect.unit (s := S16) off S1.size inb)).squeeze S_ squeezes_S1_S_).sem = recvQ s := by
  subst h; revert s; decide

/-! ## The rows of the buffer -/

theorem row_inb (s : Dev nD) : ∀ a, (![s.val, 0, 0] : Fin 3 → Nat) a + S1x2x128.size a ≤ S16x2x128.size a := by
  revert s; decide

/-- Row `s` as a block of the buffer, and as the copies name it. -/
abbrev rowR (s : Dev nD) : Rect S16x2x128 := Rect.unit (s := S16x2x128) ![s.val, 0, 0] S1x2x128.size (row_inb s)
abbrev comM : Memref sig .tc .vmem S16x2x128 .f32 := Memref.whole cc0_scratch0
abbrev rowM (s : Dev nD) : Memref sig .tc .vmem S2x128 .f32 :=
  (comM.slice (rowR s) (fun _ => rfl)).squeeze S2x128 squeezes_S1x2x128_S2x128

theorem rowM_eq (s : Dev nD) (off : Fin 3 → Nat) (h : off = ![s.val, 0, 0]) (inb : ∀ a, off a + S1x2x128.size a ≤ S16x2x128.size a) :
    (comM.slice (Rect.unit (s := S16x2x128) off S1x2x128.size inb) (fun _ => rfl)).squeeze S2x128 squeezes_S1x2x128_S2x128 = rowM s := by
  subst h; rfl

/-- The elements of row `s`. -/
abbrev rowSet (s : Dev nD) : Finset (cc0_scratch0 : Ref sig .tc).ty.Idx := (rowM s).view.set

theorem rowSet_eq (s : Dev nD) : rowSet s = (rowR s).set := by
  unfold rowSet
  show (((View.whole cc0_scratch0).slice (rowR s)).reshape S2x128 squeezes_S1x2x128_S2x128.numel_eq).set = _
  rw [View.set_reshape, View.set_slice_whole]

theorem mem_rowSet (s : Dev nD) (i : S16x2x128.Idx) : i ∈ rowSet s ↔ i 0 = s := by
  rw [rowSet_eq, Rect.mem_set_unit]
  constructor
  · intro h
    have h0 := h 0
    apply Fin.ext
    have h1 : s.val ≤ (i 0).val := h0.1
    have h2 : (i 0).val < s.val + 1 := h0.2
    omega
  · intro h a
    fin_cases a
    · refine ⟨?_, ?_⟩
      · show s.val ≤ (i 0).val; rw [h]
      · show (i 0).val < s.val + 1; rw [h]; omega
    · exact ⟨Nat.zero_le _, by show (i 1).val < 0 + 2; have : (i 1).val < 2 := (i 1).isLt; omega⟩
    · exact ⟨Nat.zero_le _, by show (i 2).val < 0 + 128; have : (i 2).val < 128 := (i 2).isLt; omega⟩

theorem row_disjoint (s t : Dev nD) (h : s ≠ t) : Disjoint (rowSet s) (rowSet t) :=
  Finset.disjoint_left.mpr fun i hs ht => h (((mem_rowSet s i).mp hs).symm.trans ((mem_rowSet t i).mp ht))

theorem row_cover : (Finset.univ : Finset (Dev nD)).biUnion rowSet = Finset.univ :=
  Finset.eq_univ_iff_forall.mpr fun i => Finset.mem_biUnion.mpr ⟨i 0, Finset.mem_univ _, (mem_rowSet _ i).mpr rfl⟩

/-! ## Contents -/

/-- Device `c`'s blocks of `x` and `Wp`, as its staging buffers hold them. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The place inside its row of an element of the buffer. -/
def inRow (i : S16x2x128.Idx) : S1x2x128.Idx := fun
  | ⟨0, _⟩ => ⟨0, Nat.one_pos⟩
  | ⟨1, _⟩ => i 1
  | ⟨2, _⟩ => i 2

/-- The whole buffer once every row has landed: row `s` holds device `s`'s sums. -/
def gath : (cc0_scratch0 : Ref sig .tc).ty.Contents (Elt F) := fun i : S16x2x128.Idx => k0_pay2 (xstg m ρ (i 0)) (inRow i)

theorem read_gath (s : Dev nD) :
    ((comM.access (rowR s) : View sig .tc _ _ _).read (Elt F) (gath m ρ) : S1x2x128.Idx → Elt F .f32) = k0_pay2 (xstg m ρ s) := by
  funext j
  show gath m ρ ((rowR s).emb j) = _
  have h0 : ((rowR s).emb j : S16x2x128.Idx) 0 = s := by
    apply Fin.ext
    show s.val + 1 * (j 0).val = s.val
    have : (j 0).val < 1 := (j 0).isLt
    omega
  have h1 : inRow ((rowR s).emb j) = j := by
    funext a
    fin_cases a
    · apply Fin.ext; show 0 = (j 0).val
      have : (j 0).val < 1 := (j 0).isLt
      omega
    · apply Fin.ext; show 0 + 1 * (j 1).val = (j 1).val; omega
    · apply Fin.ext; show 0 + 1 * (j 2).val = (j 2).val; omega
  unfold gath
  rw [h0, h1]

/-! ## Rows as resources -/

/-- Row `s` of device `d`'s buffer, at share `q` and contents `f`. -/
def rowPts (d s : Dev nD) (q : PosShare TreeShare) (f : Buf (Elt F) ((d : Thread nD τ).loc cc0_scratch0)) : sProp 𝕄 :=
  ((d : Thread nD τ).loc cc0_scratch0) ↦[rowSet s]{q} f

/-- The share of its own row that device `c` lends to the copy to `t`; share `c` it keeps. -/
abbrev part (t : Dev nD) : PosShare TreeShare := ShareLeaves.leaf 4 fullShare t

omit [FloatOps F] in
instance rowPts_storable (d s : Dev nD) (q) (f) : BI.Storable (upEmb : UEmb _ 𝕄) (rowPts (F := F) d s q f) := by
  unfold rowPts; infer_instance

/-! ## The schedule -/

/-- A row's credit. -/
abbrev N : ℕ := (rowM 0).view.dmaCredit
theorem N_pos : 0 < N := View.dmaCredit_pos _ (by decide)

/-- What device `d` hands device `c` on entering: row `c` of its buffer. -/
def barPay (c d : Dev nD) : sProp 𝕄 := iprop(∃ f, rowPts d c fullShare f)

def duties (c : Dev nD) : Role → Finset (Dev nD)
  | .bar => others c
  | .send t => if t = c then ∅ else {c}
  | .recv s => if s = c then ∅ else {s}
  | .other => ∅

def payload (c d : Dev nD) : Role → sProp 𝕄
  | .bar => barPay c d
  | .send t => rowPts c c (part t) (gath m ρ)
  | .recv s => rowPts c s fullShare (gath m ρ)
  | .other => iprop(emp)

def amount : Role → ℕ
  | .bar => 1
  | _ => N

def sched : Rounds.Schedule (GSem nD τ sig) (Dev nD) 𝕄 where
  duties g r := if r = 0 ∧ g.1.2 = .tc then duties g.1.1 (role g.2) else ∅
  unitless _ := False
  amount g _ _ := amount (role g.2)
  payload g _ d := payload m ρ g.1.1 d (role g.2)
  amount_pos g _ _ _ := by
    unfold amount; split
    · exact Nat.one_pos
    · exact N_pos

instance sched_payload_storable (g : GSem nD τ sig) (r : ℕ) (d : Dev nD) :
    BI.Storable (upEmb : UEmb _ 𝕄) ((sched (F := F) m ρ).payload g r d) := by
  show BI.Storable upEmb (payload m ρ g.1.1 d (role g.2))
  unfold payload barPay
  split <;> infer_instance

section Sched

variable (c t d : Dev nD)

theorem duties_bar : (sched (F := F) m ρ).duties (barCell c) 0 = others c := by
  dsimp only [sched]; rw [if_pos ⟨rfl, rfl⟩, role_bar]; rfl
theorem duties_send (h : t ≠ c) : (sched (F := F) m ρ).duties (sendCell c t) 0 = {c} := by
  dsimp only [sched]; rw [if_pos ⟨rfl, rfl⟩, role_send]; exact if_neg h
theorem duties_recv (h : t ≠ c) : (sched (F := F) m ρ).duties (recvCell c t) 0 = {t} := by
  dsimp only [sched]; rw [if_pos ⟨rfl, rfl⟩, role_recv]; exact if_neg h
theorem duties_send_self : (sched (F := F) m ρ).duties (sendCell c c) 0 = ∅ := by
  dsimp only [sched]; rw [if_pos ⟨rfl, rfl⟩, role_send]; exact if_pos rfl
theorem duties_recv_self : (sched (F := F) m ρ).duties (recvCell c c) 0 = ∅ := by
  dsimp only [sched]; rw [if_pos ⟨rfl, rfl⟩, role_recv]; exact if_pos rfl
theorem duties_later (g : GSem nD τ sig) : ∀ r, 1 ≤ r → (sched (F := F) m ρ).duties g r = ∅ :=
  fun r hr => by dsimp only [sched]; rw [if_neg fun h => by omega]

theorem amount_bar (r : ℕ) : (sched (F := F) m ρ).amount (barCell c) r d = 1 := by
  dsimp only [sched]; rw [role_bar]; rfl
theorem amount_send (r : ℕ) : (sched (F := F) m ρ).amount (sendCell c t) r d = N := by
  dsimp only [sched]; rw [role_send]; rfl
theorem amount_recv (r : ℕ) : (sched (F := F) m ρ).amount (recvCell c t) r d = N := by
  dsimp only [sched]; rw [role_recv]; rfl

theorem payload_bar (r : ℕ) : (sched (F := F) m ρ).payload (barCell c) r d = barPay c d := by
  dsimp only [sched]; rw [role_bar]; rfl
theorem payload_send (r : ℕ) : (sched (F := F) m ρ).payload (sendCell c t) r d = rowPts c c (part t) (gath m ρ) := by
  dsimp only [sched]; rw [role_send]; rfl
theorem payload_recv (r : ℕ) : (sched (F := F) m ρ).payload (recvCell c t) r d = rowPts c t fullShare (gath m ρ) := by
  dsimp only [sched]; rw [role_recv]; rfl

theorem expect_bar : (sched (F := F) m ρ).expect (barCell c) 0 = 15 := by
  unfold Schedule.expect Schedule.amountOf
  rw [duties_bar, Finset.sum_congr rfl fun d _ => amount_bar m ρ c d 0, Finset.sum_const,
    Finset.card_erase_of_mem (Finset.mem_univ c), Finset.card_univ, Fintype.card_fin]
  rfl
theorem expect_send (h : t ≠ c) : (sched (F := F) m ρ).expect (sendCell c t) 0 = N := by
  unfold Schedule.expect Schedule.amountOf; rw [duties_send m ρ c t h, Finset.sum_singleton, amount_send]
theorem expect_recv (h : t ≠ c) : (sched (F := F) m ρ).expect (recvCell c t) 0 = N := by
  unfold Schedule.expect Schedule.amountOf; rw [duties_recv m ρ c t h, Finset.sum_singleton, amount_recv]

theorem rest_bar : bigSep ((sched (F := F) m ρ).duties (barCell c) 0 \ ∅) (fun d => (sched (F := F) m ρ).payload (barCell c) 0 d)
    = bigSep (others c) (fun d => barPay c d) := by
  rw [Finset.sdiff_empty, duties_bar]
  exact bigSep_congr fun d _ => payload_bar m ρ c d 0
theorem rest_send (h : t ≠ c) : bigSep ((sched (F := F) m ρ).duties (sendCell c t) 0 \ ∅) (fun d => (sched (F := F) m ρ).payload (sendCell c t) 0 d)
    = rowPts c c (part t) (gath m ρ) := by
  rw [Finset.sdiff_empty, duties_send m ρ c t h, bigSep_singleton, payload_send]
theorem rest_recv (h : t ≠ c) : bigSep ((sched (F := F) m ρ).duties (recvCell c t) 0 \ ∅) (fun d => (sched (F := F) m ρ).payload (recvCell c t) 0 d)
    = rowPts c t fullShare (gath m ρ) := by
  rw [Finset.sdiff_empty, duties_recv m ρ c t h, bigSep_singleton, payload_recv]

end Sched

/-! ## What a device owes, and the levels -/

/-- The barrier units and the row credits device `c` owes the others, after `n` barrier signals or `n` copies. -/
def owedBar (c : Dev nD) (n : Nat) : CellTallies nD τ sig Unit := due c n fun p => tallyAt (barCell p) () 1
def owedRow (c : Dev nD) (n : Nat) : CellTallies nD τ sig Unit := due c n fun p => tallyAt (recvCell p c) () N

def O₀ (c : Dev nD) : CellTallies nD τ sig Unit := owedRow c 0 + owedBar c 0

def L (g : GSem nD τ sig) : Finset Unit := if g.1.2 = .tc then {()} else ∅
/-- Barrier cells at 1, receive cells at 2, everything else (staging, send) at 0. -/
def roleLv : Role → ℕ
  | .bar => 1
  | .recv _ => 2
  | _ => 0
def lv (g : GSem nD τ sig) (_ : Unit) : ℕ := roleLv (role g.2)

theorem L_of_ne (g : GSem nD τ sig) (h : g.1.2 ≠ .tc) : L g = ∅ := if_neg h
theorem L_tc (c : Dev nD) (sm : SemLoc sig) : L ((c : Thread nD τ), sm) = {()} := if_pos rfl

theorem due_pos {c : Dev nD} {n : Nat} {k : ℕ} {cell : Dev nD → GSem nD τ sig} {g : GSem nD τ sig} {u : Unit}
    (h : 0 < due c n (fun p => tallyAt (cell p) () k) g u) : ∃ p, g = cell p := by
  unfold due at h
  rw [Finset.sum_apply, Finsupp.finset_sum_apply] at h
  obtain ⟨p, -, hp⟩ := Finset.exists_ne_zero_of_sum_ne_zero (Nat.pos_iff_ne_zero.mp h)
  refine ⟨p, ?_⟩
  by_contra hne
  apply hp
  split
  · rw [tallyAt_apply, if_neg fun h' => hne h'.1]
  · rfl

theorem O₀_pos {c : Dev nD} {g : GSem nD τ sig} {u : Unit} (h : 0 < O₀ c g u) : ∃ p, g = recvCell p c ∨ g = barCell p := by
  unfold O₀ at h
  rw [Pi.add_apply, Finsupp.add_apply] at h
  rcases Nat.add_pos_iff_pos_or_pos.mp h with h | h
  · obtain ⟨p, hp⟩ := due_pos h; exact ⟨p, .inl hp⟩
  · obtain ⟨p, hp⟩ := due_pos h; exact ⟨p, .inr hp⟩

/-- A staging semaphore is below everything owed. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨p, rfl | rfl⟩ := O₀_pos hg <;> exact Finset.mem_singleton_self _)
      (fun p hp => by rw [Finset.mem_singleton.mp hp]; dsimp only [lv]; rw [hq]; exact Nat.le_refl _)
      (fun g u hg => by
        obtain ⟨p, rfl | rfl⟩ := O₀_pos hg
        · dsimp only [lv]; rw [role_recv]; show _ < 2; decide
        · dsimp only [lv]; rw [role_bar]; show _ < 1; decide)
  · rw [MayWait_zero]; iintro -; iempintro

/-- At its barrier wait a device owes row credits only: receive cells, above its barrier cell. -/
theorem mayWait_bar (c : Dev nD) (n : Nat) :
    (levAts L lv : sProp 𝕄) ⊢ MayWait (c : Thread nD τ) (.reg barS) () (owedRow c n) :=
  MayOwe.of_cut (L := L) (lev := lv) 1 (fun p hp => by rw [Finset.mem_singleton.mp hp, L_tc]; exact Finset.mem_singleton_self _)
    (fun g u hg => by obtain ⟨p, rfl⟩ := due_pos hg; exact Finset.mem_singleton_self _)
    (fun p hp => by rw [Finset.mem_singleton.mp hp]; dsimp only [lv]; rw [role_bar]; exact Nat.le_refl _)
    (fun g u hg => by obtain ⟨p, rfl⟩ := due_pos hg; dsimp only [lv]; rw [role_recv]; show _ < 2; decide)

end Cert.KernelIdeal.Ring

end
-- ==== Proof.KernelIdealSteps.lean ====
/-
# The steps of the exchange

One lemma per kind of step — a barrier signal, the barrier wait, a copy, a wait for a row, a wait for a copy — each
taking the state of its phase from `n` devices met to `n + 1`, whatever else the device holds.
-/
module

public import proofs.«01_k».proof.Proof.KernelIdealRing

@[expose] public section

noncomputable section

namespace Cert.KernelIdeal.Ring

open Cert.KernelIdeal Cert.KernelIdeal.Gen Cert.Walk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The records every device reads -/

/-- A device's cells: its barrier cell, its send cells, its receive cells. -/
abbrev CI : Type := Unit ⊕ (Dev nD ⊕ Dev nD)
abbrev csem : CI → SemLoc sig
  | .inl _ => .reg barS
  | .inr (.inl t) => .dma (sendQ t)
  | .inr (.inr s) => .dma (recvQ s)
abbrev kcell (ck : Dev nD × CI) : GSem nD τ sig := ((ck.1 : Thread nD τ), csem ck.2)

/-- Every cell's invariant, and that every cell has reached its one round. -/
def records (K : Dev nD × CI → ℕ) : sProp 𝕄 :=
  bigSep Finset.univ fun ck : Dev nD × CI => iprop(cellInv ER (sched m ρ) (K ck) (kcell ck) ∗ reached ER (kcell ck) 0)

instance records_persistent (K : Dev nD × CI → ℕ) : BI.Persistent (records m ρ K) := by unfold records; infer_instance

theorem records_at (K : Dev nD × CI → ℕ) (ck : Dev nD × CI) :
    records m ρ K ⊢ iprop(cellInv ER (sched m ρ) (K ck) (kcell ck) ∗ reached ER (kcell ck) 0) :=
  bigSep_elim (Finset.mem_univ ck)

/-- What device `c` owes, whatever waits it has recorded. -/
def owesE (c : Dev nD) (O : CellTallies nD τ sig Unit) : sProp 𝕄 := iprop(∃ W, owes (c : Thread nD τ) O W)

/-- What must be shown of device `c`'s program. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × CI → ℕ) (c : Dev nD)

/-! ## The states -/

/-- `n` barrier signals sent: for each device to come, the duty of its barrier cell and the row it is to be handed. -/
def sigSt (n : Nat) : sProp 𝕄 :=
  iprop(records m ρ K ∗ owesE c (owedRow c 0 + owedBar c n)
    ∗ walk c n (fun p => iprop(dutyTok ER (barCell p) 0 c ∗ barPay p c)) (fun _ => iprop(emp)))

/-- Before the barrier wait, and after it: the row of every other device's buffer. -/
def barSt : sProp 𝕄 :=
  iprop(records m ρ K ∗ owesE c (owedRow c 0) ∗ cred (tallyAt (barCell c) () 15) ∗ levAts L lv ∗ atPos ER (barCell c) 0 ∅ 0)
def barSt' : sProp 𝕄 :=
  iprop(records m ρ K ∗ owesE c (owedRow c 0) ∗ atPos ER (barCell c) 1 ∅ 0 ∗ bigSep (others c) (fun d => barPay c d))

/-- `n` copies started: for each device to come the two duties, its row and a share of the row to send; for each
    device passed the credit of the send cell. -/
def sendSt (n : Nat) : sProp 𝕄 :=
  iprop(records m ρ K ∗ owesE c (owedRow c n)
    ∗ walk c n (fun p => iprop(dutyTok ER (sendCell c p) 0 c ∗ dutyTok ER (recvCell p c) 0 c ∗ barPay c p ∗ rowPts c c (part p) (gath m ρ)))
        (fun p => cred (tallyAt (sendCell c p) () N)))

/-- `n` rows received. -/
def recvSt (n : Nat) : sProp 𝕄 :=
  iprop(records m ρ K ∗ owesE c 0
    ∗ walk c n (fun p => iprop(cred (tallyAt (recvCell c p) () N) ∗ atPos ER (recvCell c p) 0 ∅ 0))
        (fun p => iprop(atPos ER (recvCell c p) 1 ∅ 0 ∗ rowPts c p fullShare (gath m ρ))))

/-- `n` copies known to have read their source. -/
def doneSt (n : Nat) : sProp 𝕄 :=
  iprop(records m ρ K ∗ owesE c 0
    ∗ walk c n (fun p => iprop(cred (tallyAt (sendCell c p) () N) ∗ atPos ER (sendCell c p) 0 ∅ 0))
        (fun p => iprop(atPos ER (sendCell c p) 1 ∅ 0 ∗ rowPts c c (part p) (gath m ρ))))

/-! ## The steps -/

section Steps

variable {α : Type} {k : PUnit → Prog (TpuEff nD τ sig (Elt F) Λ₀ .tc) α}
variable {p : Dev nD} {n : Nat}

theorem step_signal {Q : α → sProp 𝕄} {R : sProp 𝕄} (hn : n < 15) (hp : p.val = (c.val + (n + 1)) % 16) {a : ℤ} (ha : a = ((1 : ℕ) : ℤ))
    (h : iprop(sigSt m ρ K c (n + 1) ∗ R) ⊢ Wp c (k PUnit.unit) Q) :
    iprop(sigSt m ρ K c n ∗ R) ⊢ Wp c (.op (.semSignal ((p : Dev nD), .tc) barS a) k) Q := by
  subst ha
  unfold sigSt at h ⊢
  rw [walk_give hn hp] at h
  rw [walk_take hn hp]
  unfold owesE at h ⊢
  have hmem : c ∈ others p := Finset.mem_erase.mpr ⟨(Finset.ne_of_mem_erase (step_mem hn hp)).symm, Finset.mem_univ _⟩
  iintro ⟨⟨#Hrec, ⟨%W, HO⟩, ⟨Htok, Hrow⟩, Hrest⟩, HR⟩
  ihave Hc := (records_at m ρ K (p, .inl ())) $$ Hrec
  icases Hc with ⟨#Hinv, #Hre⟩
  iapply (Rounds.wp_signal 𝒱₀ ER (sched m ρ) (c : Thread nD τ) none (dst := (p : Thread nD τ)) (κ := K (p, .inl ()))
      (d := c) (r := 0) (by rw [duties_bar]; exact hmem) (amount_bar m ρ p c 0) () (O₀ := owedRow c 0 + owedBar c n) (owedRow c 0 + owedBar c (n + 1))
      (by unfold owedBar; rw [due_step hn hp, add_assoc])) $$ [HO Htok Hrow]
  · isplitr; · iexact Hinv
    isplitl [HO]; · iexact HO
    isplitl [Htok]; · iexact Htok
    isplitl [Hrow]; · rw [payload_bar]; iexact Hrow
    iexact Hre
  iintro HO
  iapply h
  isplitr [HR]
  · isplitr; · iexact Hrec
    isplitl [HO]; · iexists W; iexact HO
    isplitr; · iempintro
    iexact Hrest
  iexact HR

theorem step_barrier {Q : α → sProp 𝕄} {R : sProp 𝕄} {a : ℤ} (ha : a = ((15 : ℕ) : ℤ)) (h : iprop(barSt' m ρ K c ∗ R) ⊢ Wp c (k PUnit.unit) Q) :
    iprop(barSt m ρ K c ∗ R) ⊢ Wp c (.op (.semWait barS a) k) Q := by
  subst ha
  unfold barSt' owesE at h
  unfold barSt owesE
  iintro ⟨⟨#Hrec, ⟨%W, HO⟩, Hcr, #Hlev, Hat⟩, HR⟩
  ihave Hc := (records_at m ρ K (c, .inl ())) $$ Hrec
  icases Hc with ⟨#Hinv, -⟩
  iapply (Rounds.wp_wait_rest_token 𝒱₀ ER (sched m ρ) (c : Thread nD τ) none (κ := K (c, .inl ()))
      (wpE_semWait_eq 𝒱₀ (c : Thread nD τ) none Set.univ) (Set.mem_univ _) () (O := owedRow c 0) (W := W) (R := 0) (m := 0) (T := ∅)
      (by rw [expect_bar])) $$ [Hcr HO Hat]
  · isplitr; · iexact Hinv
    isplitl [Hcr]; · iexact Hcr
    isplitl [HO]; · iexact HO
    isplitr; · iapply (mayWait_bar c 0); iexact Hlev
    iexact Hat
  iintro ⟨HO, Hat, -, Hpay⟩
  ihave Hp := (Entails.of_eq (rest_bar m ρ c)) $$ Hpay
  iapply h
  isplitr [HR]
  · isplitr; · iexact Hrec
    isplitl [HO]; · iexists _; iexact HO
    isplitl [Hat]; · iexact Hat
    iexact Hp
  iexact HR

/-- A copy of row `c` lands as row `c` of every device's final buffer. -/
theorem landed_row (f : Buf (Elt F) ((rowM c).view.loc (p : Thread nD τ))) :
    (((rowM c).view.loc (p : Thread nD τ)) ↦[(rowM c).view.set]{fullShare}
        ((rowM c).view.write (Elt F) f ((rowM c).view.read (Elt F) (gath m ρ)) Finset.univ) : sProp 𝕄)
      = rowPts p c fullShare (gath m ρ) := by
  rw [View.write_read_eq_piecewise]
  exact pointsTo_congr fun i hi => Finset.piecewise_eq_of_mem _ _ _ hi

/-- A row as a copy sees it. -/
theorem rowPts_view (d s : Dev nD) (q : PosShare TreeShare) (f : Buf (Elt F) ((d : Thread nD τ).loc cc0_scratch0)) :
    (rowPts d s q f : sProp 𝕄) = (((rowM s).view.loc (d : Thread nD τ)) ↦[(rowM s).view.set]{q} f) := rfl

/-- Every row has the same credit. -/
theorem row_credit (s : Dev nD) : (rowM s).view.dmaCredit = N := rfl

set_option maxHeartbeats 800000 in
theorem step_send {Q : α → sProp 𝕄} {R : sProp 𝕄} {src dst : Memref sig .tc .vmem S2x128 .f32} {q q' : DmaSem sig} {dv : Dev nD}
    (hn : n < 15) (hp : p.val = (c.val + (n + 1)) % 16) (hdv : dv = p)
    (hs : src = rowM c) (hd : dst = rowM c) (hq : q = sendQ p) (hq' : q' = recvQ c)
    {hsc : (dst : Memref sig (Dev.tc dv : Thread nD τ).2.kind .vmem S2x128 .f32).view.ref.isScScratch = false}
    {hsrc : src.view.WordExact} {hdst : dst.view.WordExact}
    {hsem : DmaTarget.Typed .vmem (.dma q') (.remote (Dev.tc dv : Thread nD τ) (dst : Memref sig .tc .vmem S2x128 .f32) (.dma q) hsc)}
    (h : iprop(sendSt m ρ K c (n + 1) ∗ R) ⊢ Wp c (k PUnit.unit) Q) :
    iprop(sendSt m ρ K c n ∗ R) ⊢ Wp c (.op (.enqueueDma src (.remote (Dev.tc dv : Thread nD τ) dst (.dma q) hsc) (.dma q') hsrc hdst hsem) k) Q := by
  subst hdv hs hd hq hq'
  have hne : dv ≠ c := Finset.ne_of_mem_erase (step_mem hn hp)
  unfold sendSt at h ⊢
  rw [walk_give hn hp] at h
  rw [walk_take hn hp]
  unfold owesE at h ⊢
  iintro ⟨⟨#Hrec, ⟨%W, HO⟩, ⟨Ht, Ht', Hrow, Hsrc⟩, Hrest⟩, HR⟩
  ihave Hc := (records_at m ρ K (c, .inr (.inl dv))) $$ Hrec
  icases Hc with ⟨#Hinv, #Hre⟩
  ihave Hc' := (records_at m ρ K (dv, .inr (.inr c))) $$ Hrec
  icases Hc' with ⟨#Hinv', #Hre'⟩
  unfold barPay
  icases Hrow with ⟨%f, Hrow⟩
  iapply (Rounds.wp_send_pointsTo 𝒱₀ ER (sched m ρ) (c : Thread nD τ) none (κ₁ := K (c, .inr (.inl dv))) (κ₂ := K (dv, .inr (.inr c)))
      (c' := (dv : Thread nD τ)) (src := rowM c) (dst := rowM c) (sS := .dma (sendQ dv)) (sem := .dma (recvQ c))
      (r₁ := 0) (r₂ := 0) (d₁ := c) (d₂ := c) (fs := gath m ρ) (fd := f) (q := part dv)
      (by rw [duties_send m ρ c dv hne]; exact Finset.mem_singleton_self _) (by rw [duties_recv m ρ dv c hne.symm]; exact Finset.mem_singleton_self _)
      () () N (row_credit c) (O₀ := owedRow c n) (amount_send m ρ c dv c 0) (amount_recv m ρ dv c c 0) (owedRow c (n + 1)) (by unfold owedRow; rw [due_step hn hp]) (W := W)
      (by rw [payload_send]; exact BI.Entails.refl _)
      (by rw [payload_recv]; exact Entails.of_eq (landed_row m ρ c f))) $$ [HO Ht Ht' Hrow Hsrc]
  · isplitr; · iexact Hinv
    isplitr; · iexact Hinv'
    isplitl [Hsrc]; · rw [← rowPts_view]; iexact Hsrc
    isplitl [Hrow]; · rw [← rowPts_view]; iexact Hrow
    isplitl [HO]; · iexact HO
    isplitl [Ht]; · iexact Ht
    isplitr; · iexact Hre
    isplitl [Ht']; · iexact Ht'
    iexact Hre'
  iintro ⟨Hcr, HO⟩
  iapply h
  isplitr [HR]
  · isplitr; · iexact Hrec
    isplitl [HO]; · iexists _; iexact HO
    isplitl [Hcr]; · iexact Hcr
    iexact Hrest
  iexact HR

theorem step_recv {Q : α → sProp 𝕄} {R : sProp 𝕄} {src dst : Memref sig .tc .vmem S2x128 .f32} {q : DmaSem sig}
    (hn : n < 15) (hp : p.val = (c.val + (n + 1)) % 16) (hd : dst = rowM p) (hq : q = recvQ p)
    {hsrc : src.view.WordExact} {hdst : dst.view.WordExact}
    (h : iprop(recvSt m ρ K c (n + 1) ∗ R) ⊢ Wp c (k PUnit.unit) Q) :
    iprop(recvSt m ρ K c n ∗ R) ⊢ Wp c (.op (.waitDma2 q src dst hsrc hdst) k) Q := by
  subst hd hq
  have hne : p ≠ c := Finset.ne_of_mem_erase (step_mem hn hp)
  unfold recvSt at h ⊢
  rw [walk_give hn hp] at h
  rw [walk_take hn hp]
  unfold owesE at h ⊢
  iintro ⟨⟨#Hrec, ⟨%W, HO⟩, ⟨Hcr, Hat⟩, Hrest⟩, HR⟩
  ihave Hc := (records_at m ρ K (c, .inr (.inr p))) $$ Hrec
  icases Hc with ⟨#Hinv, -⟩
  iapply (Rounds.wp_wait_rest_token 𝒱₀ ER (sched m ρ) (c : Thread nD τ) none (κ := K (c, .inr (.inr p)))
      (wpE_waitDma2_eq 𝒱₀ (c : Thread nD τ) none Set.univ) (Set.mem_univ _) () (O := 0) (W := W) (R := 0) (m := 0) (T := ∅)
      (by rw [expect_recv m ρ c p hne]; exact Nat.zero_add _)) $$ [Hcr HO Hat]
  · isplitr; · iexact Hinv
    isplitl [Hcr]; · iexact Hcr
    isplitl [HO]; · iexact HO
    isplitr; · rw [MayWait_zero]; iempintro
    iexact Hat
  iintro ⟨HO, Hat, -, Hpay⟩
  ihave Hp := (Entails.of_eq (rest_recv m ρ c p hne)) $$ Hpay
  iapply h
  isplitr [HR]
  · isplitr; · iexact Hrec
    isplitl [HO]; · iexists _; iexact HO
    isplitl [Hat Hp]
    · isplitl [Hat]; · iexact Hat
      iexact Hp
    iexact Hrest
  iexact HR

theorem step_done {Q : α → sProp 𝕄} {R : sProp 𝕄} {src dst : Memref sig .tc .vmem S2x128 .f32} {q : DmaSem sig}
    (hn : n < 15) (hp : p.val = (c.val + (n + 1)) % 16) (hd : dst = rowM c) (hq : q = sendQ p)
    {hsrc : src.view.WordExact} {hdst : dst.view.WordExact}
    (h : iprop(doneSt m ρ K c (n + 1) ∗ R) ⊢ Wp c (k PUnit.unit) Q) :
    iprop(doneSt m ρ K c n ∗ R) ⊢ Wp c (.op (.waitDma2 q src dst hsrc hdst) k) Q := by
  subst hd hq
  have hne : p ≠ c := Finset.ne_of_mem_erase (step_mem hn hp)
  unfold doneSt at h ⊢
  rw [walk_give hn hp] at h
  rw [walk_take hn hp]
  unfold owesE at h ⊢
  iintro ⟨⟨#Hrec, ⟨%W, HO⟩, ⟨Hcr, Hat⟩, Hrest⟩, HR⟩
  ihave Hc := (records_at m ρ K (c, .inr (.inl p))) $$ Hrec
  icases Hc with ⟨#Hinv, -⟩
  iapply (Rounds.wp_wait_rest_token 𝒱₀ ER (sched m ρ) (c : Thread nD τ) none (κ := K (c, .inr (.inl p)))
      (wpE_waitDma2_eq 𝒱₀ (c : Thread nD τ) none Set.univ) (Set.mem_univ _) () (O := 0) (W := W) (R := 0) (m := 0) (T := ∅)
      (by rw [expect_send m ρ c p hne]; exact Nat.zero_add _)) $$ [Hcr HO Hat]
  · isplitr; · iexact Hinv
    isplitl [Hcr]; · iexact Hcr
    isplitl [HO]; · iexact HO
    isplitr; · rw [MayWait_zero]; iempintro
    iexact Hat
  iintro ⟨HO, Hat, -, Hpay⟩
  ihave Hp := (Entails.of_eq (rest_send m ρ c p hne)) $$ Hpay
  iapply h
  isplitr [HR]
  · isplitr; · iexact Hrec
    isplitl [HO]; · iexists _; iexact HO
    isplitl [Hat Hp]
    · isplitl [Hat]; · iexact Hat
      iexact Hp
    iexact Hrest
  iexact HR

end Steps

end Cert.KernelIdeal.Ring

end
-- ==== Proof.KernelIdealParts.lean ====
/-
# The body, part by part

Each part of the body takes the state of its phase as many devices further as it has steps.
-/
module

public import proofs.«01_k».proof.Proof.KernelIdealSteps

@[expose] public section

noncomputable section

namespace Cert.KernelIdeal.Ring

open Cert.KernelIdeal Cert.KernelIdeal.Gen Cert.Walk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-! ## A step at the operands the body writes -/

section At

variable {α : Type} {k : PUnit → Prog (TpuEff nD τ sig (Elt F) Λ₀ .tc) α}

/-- The device `n + 1` places on. -/
abbrev peer (n : Fin 15) : Dev nD := ⟨(c.val + (n.val + 1)) % 16, Nat.mod_lt _ (by decide)⟩

/-- Row `c`, send semaphore, receive semaphore and another's row, as the body slices them. -/
abbrev ownRow : Memref sig .tc .vmem S2x128 .f32 :=
  (comM.slice (Rect.unit (s := S16x2x128) (k0_off4 c) S1x2x128.size (k0_off4_inb c)) (fun _ => rfl)).squeeze S2x128 squeezes_S1x2x128_S2x128
abbrev peerRow (n : Fin 15) : Memref sig .tc .vmem S2x128 .f32 :=
  (comM.slice (Rect.unit (s := S16x2x128) (k0_off5 c (BitVec.ofNat 32 (1 + n.val))) S1x2x128.size (k0_off5_inb c n)) (fun _ => rfl)).squeeze S2x128 squeezes_S1x2x128_S2x128
abbrev ownSem (A : DmaSems sig S16) : DmaSem sig :=
  ((A.slice (Rect.unit (s := S16) (k0_off3 c) S1.size (k0_off3_inb c))).squeeze S_ squeezes_S1_S_).sem
abbrev peerSem (A : DmaSems sig S16) (n : Fin 15) : DmaSem sig :=
  ((A.slice (Rect.unit (s := S16) (k0_off2 c (BitVec.ofNat 32 (1 + n.val))) S1.size (k0_off2_inb c n))).squeeze S_ squeezes_S1_S_).sem

theorem ownRow_eq : ownRow c = rowM c := rowM_eq c _ (k0_off4_eq c) _
theorem peerRow_eq (n : Fin 15) : peerRow c n = rowM (peer c n) :=
  rowM_eq (peer c n) _ ((k0_off5_eq c n).trans (by rw [Nat.add_assoc])) _
theorem ownSem_eq : ownSem c cc0_scratch2 = recvQ c := recvQ_eq c _ (k0_off3_eq c) _
theorem peerSend_eq (n : Fin 15) : peerSem c cc0_scratch1 n = sendQ (peer c n) :=
  sendQ_eq (peer c n) _ ((k0_off2_eq c n).trans (by rw [Nat.add_assoc])) _
theorem peerRecv_eq (n : Fin 15) : peerSem c cc0_scratch2 n = recvQ (peer c n) :=
  recvQ_eq (peer c n) _ ((k0_off2_eq c n).trans (by rw [Nat.add_assoc])) _

theorem send_at {Q : α → sProp 𝕄} {R : sProp 𝕄} (n : Fin 15) {dv : Dev nD} (hdv : dv.val = (c.val + (n.val + 1)) % 16)
    {hsc : (ownRow c : Memref sig (Dev.tc dv : Thread nD τ).2.kind .vmem S2x128 .f32).view.ref.isScScratch = false}
    {hsrc : (ownRow c).view.WordExact} {hdst : (ownRow c).view.WordExact}
    {hsem : DmaTarget.Typed .vmem (.dma (ownSem c cc0_scratch2))
      (.remote (Dev.tc dv : Thread nD τ) (ownRow c : Memref sig .tc .vmem S2x128 .f32) (.dma (peerSem c cc0_scratch1 n)) hsc)}
    (h : iprop(sendSt m ρ K c (n.val + 1) ∗ R) ⊢ Wp c (k PUnit.unit) Q) :
    iprop(sendSt m ρ K c n.val ∗ R) ⊢ Wp c (.op (.enqueueDma (ownRow c)
      (.remote (Dev.tc dv : Thread nD τ) (ownRow c) (.dma (peerSem c cc0_scratch1 n)) hsc) (.dma (ownSem c cc0_scratch2)) hsrc hdst hsem) k) Q :=
  step_send m ρ K c n.isLt rfl (Fin.ext hdv) (ownRow_eq c) (ownRow_eq c) (peerSend_eq c n) (ownSem_eq c) h

theorem recv_at {Q : α → sProp 𝕄} {R : sProp 𝕄} (n : Fin 15)
    {hsrc : (peerRow c n).view.WordExact} {hdst : (peerRow c n).view.WordExact}
    (h : iprop(recvSt m ρ K c (n.val + 1) ∗ R) ⊢ Wp c (k PUnit.unit) Q) :
    iprop(recvSt m ρ K c n.val ∗ R)
      ⊢ Wp c (.op (.waitDma2 (peerSem c cc0_scratch2 n) (peerRow c n) (peerRow c n) hsrc hdst) k) Q :=
  step_recv m ρ K c n.isLt rfl (peerRow_eq c n) (peerRecv_eq c n) h

theorem done_at {Q : α → sProp 𝕄} {R : sProp 𝕄} (n : Fin 15)
    {hsrc : (ownRow c).view.WordExact} {hdst : (ownRow c).view.WordExact}
    (h : iprop(doneSt m ρ K c (n.val + 1) ∗ R) ⊢ Wp c (k PUnit.unit) Q) :
    iprop(doneSt m ρ K c n.val ∗ R)
      ⊢ Wp c (.op (.waitDma2 (peerSem c cc0_scratch1 n) (ownRow c) (ownRow c) hsrc hdst) k) Q :=
  step_done m ρ K c n.isLt rfl (ownRow_eq c) (peerSend_eq c n) h

/-! ## The device's own row -/

/-- What a load finds in the row is not read again. -/
theorem row_load {Q : α → sProp 𝕄} {R : sProp 𝕄} {off : Fin 3 → Nat} (hoff : off = ![c.val, 0, 0])
    (inb : ∀ a, off a + S1x2x128.size a ≤ S16x2x128.size a)
    {hl : comM.view.LoadsAt (Rect.unit (s := S16x2x128) off S1x2x128.size inb).toLoadRect}
    {k : (S1x2x128.Idx → Elt F .f32) → Prog (TpuEff nD τ sig (Elt F) Λ₀ .tc) α}
    (h : ∀ v, iprop((∃ f, rowPts c c fullShare f) ∗ R) ⊢ Wp c (k v) Q) :
    iprop((∃ f, rowPts c c fullShare f) ∗ R)
      ⊢ Wp c (.op (.load comM (Rect.unit (s := S16x2x128) off S1x2x128.size inb).toLoadRect hl) k) Q := by
  subst hoff
  unfold rowPts at h ⊢
  iintro ⟨⟨%f, Hrow⟩, HR⟩
  iapply (wp_load_rect 𝒱₀ (c : Thread nD τ) none Set.univ (m := comM) (r := rowR c) (S := rowSet c) (q := fullShare) (f := f)
      (by rw [rowSet_eq]; show ((View.whole cc0_scratch0).slice (rowR c)).set ⊆ _; rw [View.set_slice_whole])) $$ [Hrow]
  · iexact Hrow
  iintro Hrow
  iapply (h _)
  isplitr [HR]
  · iexists f; iexact Hrow
  iexact HR

/-- The sums are stored into the row. -/
theorem row_store {Q : α → sProp 𝕄} {R : sProp 𝕄} {off : Fin 3 → Nat} (hoff : off = ![c.val, 0, 0])
    (inb : ∀ a, off a + S1x2x128.size a ≤ S16x2x128.size a)
    {hx : (comM.access (Rect.unit (s := S16x2x128) off S1x2x128.size inb)).Stores Finset.univ}
    {hm : Finset.univ = Finset.univ ∨ ∀ a, (Rect.unit (s := S16x2x128) off S1x2x128.size inb).stride a = 1}
    (h : iprop(rowPts c c fullShare (gath m ρ) ∗ R) ⊢ Wp c (k PUnit.unit) Q) :
    iprop((∃ f, rowPts c c fullShare f) ∗ R)
      ⊢ Wp c (.op (.store comM (Rect.unit (s := S16x2x128) off S1x2x128.size inb) (k0_pay2 (xstg m ρ c)) Finset.univ hx hm) k) Q := by
  subst hoff
  have hset : (comM.access (rowR c)).set = rowSet c := by
    rw [rowSet_eq]; show ((View.whole cc0_scratch0).slice (rowR c)).set = _; rw [View.set_slice_whole]
  unfold rowPts at h ⊢
  iintro ⟨⟨%f, Hrow⟩, HR⟩
  iapply (wp_store 𝒱₀ (c : Thread nD τ) none Set.univ (m := comM) (r := rowR c) (S := rowSet c) (f := f)
      (Mk := Finset.univ) (w := k0_pay2 (xstg m ρ c)) (hx := hx) (hm := hm) (by rw [← hset]; exact Finset.Subset.refl _)) $$ [Hrow]
  · iexact Hrow
  iintro Hrow
  have hwr : ∀ i ∈ rowSet c, ((comM.access (rowR c)).write (Elt F) f (k0_pay2 (xstg m ρ c)) Finset.univ) i = gath m ρ i := by
    intro i hi
    rw [← read_gath m ρ c, View.write_read_eq_piecewise]
    exact Finset.piecewise_eq_of_mem _ _ _ (by rw [← hset] at hi; exact hi)
  ihave Hrow' := (Entails.of_eq (pointsTo_congr (q := fullShare) hwr)) $$ Hrow
  iapply h
  isplitr [HR]
  · iexact Hrow'
  iexact HR

end At

/-! ## The parts -/

/-- At its end a program leaves what it returns. -/
theorem ret_intro {α : Type} {a : α} {Q : α → sProp 𝕄} : Q a ⊢ Wp c (.ret a) Q := by
  show Q a ⊢ iprop(|={Set.univ}[frame]=> Q a)
  iintro H
  imodintro
  iexact H

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

section Parts

variable (a0 : Memref sig .tc .vmem S2x64x64x64 .f32) (h0 : a0.IsWhole) (a1 : Memref sig .tc .vmem S64x128 .f32) (h1 : a1.IsWhole)
variable (a2 : Memref sig .tc .vmem S2x64x64x128 .bf16) (h2 : a2.IsWhole) (h3 : comM.IsWhole)

/-- The barrier semaphore as the body passes it on. -/
abbrev barA : Sems sig S_ := SemArray.scalar (sig.barrier 0 rfl)

/-- The device's index as the body computes it. -/
abbrev idxW : BitVec 32 := Scalar.remsi (Scalar.divsi (Dev.word c) 1#32) 16#32

/-- The staged block of `x`. -/
def xPts : sProp 𝕄 := ((c : Thread nD τ).loc cc0_stg0_0) ↦{fullShare} xstg m ρ c

theorem part1 {Q : (Σ' (d0 : Dev nD) (v2 : BitVec 32) (v3 : Sems sig S_) (v24 : BitVec 32), BitVec 32) → sProp 𝕄} {R : sProp 𝕄} (h : iprop(sigSt m ρ K c 5 ∗ R) ⊢ Q ⟨c, idxW c, barA, Scalar.addi (idxW c) 6#32, 16#32⟩) :
    iprop(sigSt m ρ K c 0 ∗ R) ⊢ Wp c (k0_part1 a0 h0 a1 h1 a2 h2 comM h3 cc0_scratch1 cc0_scratch2) Q := by
  rw [k0_part1_eq_skeleton]
  unfold k0_part1_skel
  simp only [semSignalWord, semWaitWord, Prog.lift, Prog.bind_op, Prog.bind_ret, Prog.pure_eq_ret, wp_deviceId]
  refine step_signal m ρ K c (n := 0) (by decide) (k0_dev1_eq c) rfl ?_
  refine step_signal m ρ K c (n := 1) (by decide) (k0_dev2_eq c) rfl ?_
  refine step_signal m ρ K c (n := 2) (by decide) (k0_dev3_eq c) rfl ?_
  refine step_signal m ρ K c (n := 3) (by decide) (k0_dev4_eq c) rfl ?_
  refine step_signal m ρ K c (n := 4) (by decide) (k0_dev5_eq c) rfl ?_
  exact h.trans (ret_intro c)

theorem part2 {Q : (Σ' (v48 : BitVec 32), BitVec 32) → sProp 𝕄} {R : sProp 𝕄} (v w u : BitVec 32) (h : iprop(sigSt m ρ K c 11 ∗ R) ⊢ Q ⟨Scalar.addi v 12#32, 16#32⟩) :
    iprop(sigSt m ρ K c 5 ∗ R) ⊢ Wp c (k0_part2 a0 h0 a1 h1 a2 h2 comM h3 cc0_scratch1 cc0_scratch2 c v barA w u) Q := by
  rw [k0_part2_eq_skeleton]
  unfold k0_part2_skel
  simp only [semSignalWord, semWaitWord, Prog.lift, Prog.bind_op, Prog.bind_ret, Prog.pure_eq_ret, wp_deviceId]
  refine step_signal m ρ K c (n := 5) (by decide) (k0_dev6_eq c) rfl ?_
  refine step_signal m ρ K c (n := 6) (by decide) (k0_dev7_eq c) rfl ?_
  refine step_signal m ρ K c (n := 7) (by decide) (k0_dev8_eq c) rfl ?_
  refine step_signal m ρ K c (n := 8) (by decide) (k0_dev9_eq c) rfl ?_
  refine step_signal m ρ K c (n := 9) (by decide) (k0_dev10_eq c) rfl ?_
  refine step_signal m ρ K c (n := 10) (by decide) (k0_dev11_eq c) rfl ?_
  exact h.trans (ret_intro c)

/-- A store over the whole output block leaves what is stored. -/
theorem write_out (f w : (cc0_stg2_0 : Ref sig .tc).ty.Contents (Elt F)) :
    ((Memref.whole cc0_stg2_0 : Memref sig .tc .vmem S2x64x64x128 .bf16).access
      (Rect.unit (s := S2x64x64x128) ![0, 0, 0, 0] S2x64x64x128.size inb_S2x64x64x128_S2x64x64x128_0_0_0_0) : View sig .tc _ _ _).write (Elt F) f w Finset.univ = w :=
  Memref.write_access_unit_zero_univ (Elt F) cc0_stg2_0 zero4 _ f w

/-- The last signals, the sums of the device's own block into its row, and the barrier wait. -/
theorem part3 {Q : (Σ' (v65 : FVec F S2x64x64x64 .f32), BitVec 32) → sProp 𝕄} {R : sProp 𝕄} (v w u : BitVec 32)
    (h : iprop(barSt' m ρ K c ∗ (xPts m ρ c ∗ rowPts c c fullShare (gath m ρ) ∗ R)) ⊢ Q ⟨k0_pay1 (xstg m ρ c), 1#32⟩) :
    iprop(sigSt m ρ K c 11 ∗ (xPts m ρ c ∗ (∃ f, rowPts c c fullShare f)
        ∗ (cred (tallyAt (barCell c) () 15) ∗ levAts L lv ∗ atPos ER (barCell c) 0 ∅ 0) ∗ R))
      ⊢ Wp c (k0_part3 (Memref.whole cc0_stg0_0) (Memref.isWhole_whole _) a1 h1 a2 h2 comM h3 cc0_scratch1 cc0_scratch2 c v barA w u) Q := by
  rw [k0_part3_eq_skeleton]
  unfold k0_part3_skel
  simp only [semSignalWord, semWaitWord, Prog.lift, Prog.bind_op, Prog.bind_ret, Prog.pure_eq_ret, wp_deviceId]
  refine step_signal m ρ K c (n := 11) (by decide) (k0_dev12_eq c) rfl ?_
  refine step_signal m ρ K c (n := 12) (by decide) (k0_dev13_eq c) rfl ?_
  refine step_signal m ρ K c (n := 13) (by decide) (k0_dev14_eq c) rfl ?_
  refine step_signal m ρ K c (n := 14) (by decide) (k0_dev15_eq c) rfl ?_
  unfold xPts at h ⊢
  have hx : (Memref.whole cc0_stg0_0).view.readAt (Elt F) (Rect.unit (s := S2x64x64x64) ![0, 0, 0, 0] S2x64x64x64.size inb_S2x64x64x64_S2x64x64x64_0_0_0_0).toLoadRect
      (xstg m ρ c) = xstg m ρ c := Memref.readAt_unit_zero (Elt F) cc0_stg0_0 zero4 _ _
  iintro ⟨HS, Hx, Hrow, ⟨Hcr, Hlev, Hat⟩, HR⟩
  iapply (wp_load 𝒱₀ (c : Thread nD τ) none Set.univ (m := Memref.whole cc0_stg0_0) (Finset.subset_univ _)) $$ Hx
  iintro Hx
  rw [hx]
  iapply (row_load c (R := iprop(sigSt m ρ K c 15 ∗ (((c : Thread nD τ).loc cc0_stg0_0) ↦{fullShare} xstg m ρ c)
        ∗ cred (tallyAt (barCell c) () 15) ∗ levAts L lv ∗ atPos ER (barCell c) 0 ∅ 0 ∗ R)) (k0_off1_eq c) (k0_off1_inb c) ?_)
  · intro v71
    refine row_store m ρ c (k0_off1_eq c) (k0_off1_inb c) ?_
    iintro ⟨Hrow, HS, Hx, Hcr, Hlev, Hat, HR⟩
    unfold sigSt
    icases HS with ⟨#Hrec, HO, -⟩
    have hO : owedBar c 15 = (0 : CellTallies nD τ sig Unit) := by unfold owedBar; exact due_full _ _
    rw [hO, add_zero]
    iapply (step_barrier m ρ K c (a := ((15 : ℕ) : ℤ)) rfl (R := iprop((((c : Thread nD τ).loc cc0_stg0_0) ↦{fullShare} xstg m ρ c)
        ∗ rowPts c c fullShare (gath m ρ) ∗ R)) ?_)
    · exact h.trans (ret_intro c)
    · unfold barSt
      isplitl [HO Hcr Hlev Hat]
      · isplitr; · iexact Hrec
        isplitl [HO]; · iexact HO
        isplitl [Hcr]; · iexact Hcr
        isplitl [Hlev]; · iexact Hlev
        iexact Hat
      isplitl [Hx]; · iexact Hx
      isplitl [Hrow]; · iexact Hrow
      iexact HR
  · isplitl [Hrow]; · iexact Hrow
    isplitl [HS]; · iexact HS
    isplitl [Hx]; · iexact Hx
    isplitl [Hcr]; · iexact Hcr
    isplitl [Hlev]; · iexact Hlev
    isplitl [Hat]; · iexact Hat
    iexact HR

theorem part4 {Q : PUnit → sProp 𝕄} {R : sProp 𝕄} (v w : BitVec 32) (h : iprop(sendSt m ρ K c 2 ∗ R) ⊢ Q PUnit.unit) :
    iprop(sendSt m ρ K c 0 ∗ R) ⊢ Wp c (k0_part4 a0 h0 a1 h1 a2 h2 comM h3 cc0_scratch1 cc0_scratch2 c v w) Q := by
  rw [k0_part4_eq_skeleton]
  unfold k0_part4_skel
  simp only [semSignalWord, semWaitWord, Prog.lift, Prog.bind_op, Prog.bind_ret, Prog.pure_eq_ret, wp_deviceId]
  refine send_at m ρ K c 0 (k0_dev16_eq c) ?_
  refine send_at m ρ K c 1 (k0_dev17_eq c) ?_
  exact h.trans (ret_intro c)

theorem part5 {Q : PUnit → sProp 𝕄} {R : sProp 𝕄} (v : BitVec 32) (h : iprop(sendSt m ρ K c 5 ∗ R) ⊢ Q PUnit.unit) :
    iprop(sendSt m ρ K c 2 ∗ R) ⊢ Wp c (k0_part5 a0 h0 a1 h1 a2 h2 comM h3 cc0_scratch1 cc0_scratch2 c v) Q := by
  rw [k0_part5_eq_skeleton]
  unfold k0_part5_skel
  simp only [semSignalWord, semWaitWord, Prog.lift, Prog.bind_op, Prog.bind_ret, Prog.pure_eq_ret, wp_deviceId]
  refine send_at m ρ K c 2 (k0_dev18_eq c) ?_
  refine send_at m ρ K c 3 (k0_dev19_eq c) ?_
  refine send_at m ρ K c 4 (k0_dev20_eq c) ?_
  exact h.trans (ret_intro c)

theorem part6 {Q : PUnit → sProp 𝕄} {R : sProp 𝕄} (v : BitVec 32) (h : iprop(sendSt m ρ K c 8 ∗ R) ⊢ Q PUnit.unit) :
    iprop(sendSt m ρ K c 5 ∗ R) ⊢ Wp c (k0_part6 a0 h0 a1 h1 a2 h2 comM h3 cc0_scratch1 cc0_scratch2 c v) Q := by
  rw [k0_part6_eq_skeleton]
  unfold k0_part6_skel
  simp only [semSignalWord, semWaitWord, Prog.lift, Prog.bind_op, Prog.bind_ret, Prog.pure_eq_ret, wp_deviceId]
  refine send_at m ρ K c 5 (k0_dev21_eq c) ?_
  refine send_at m ρ K c 6 (k0_dev22_eq c) ?_
  refine send_at m ρ K c 7 (k0_dev23_eq c) ?_
  exact h.trans (ret_intro c)

theorem part7 {Q : PUnit → sProp 𝕄} {R : sProp 𝕄} (v : BitVec 32) (h : iprop(sendSt m ρ K c 11 ∗ R) ⊢ Q PUnit.unit) :
    iprop(sendSt m ρ K c 8 ∗ R) ⊢ Wp c (k0_part7 a0 h0 a1 h1 a2 h2 comM h3 cc0_scratch1 cc0_scratch2 c v) Q := by
  rw [k0_part7_eq_skeleton]
  unfold k0_part7_skel
  simp only [semSignalWord, semWaitWord, Prog.lift, Prog.bind_op, Prog.bind_ret, Prog.pure_eq_ret, wp_deviceId]
  refine send_at m ρ K c 8 (k0_dev24_eq c) ?_
  refine send_at m ρ K c 9 (k0_dev25_eq c) ?_
  refine send_at m ρ K c 10 (k0_dev26_eq c) ?_
  exact h.trans (ret_intro c)

theorem part8 {Q : (Σ' (v244 : BitVec 32), BitVec 32) → sProp 𝕄} {R : sProp 𝕄} (v : BitVec 32) (h : ∀ w, iprop(sendSt m ρ K c 14 ∗ R) ⊢ Q w) :
    iprop(sendSt m ρ K c 11 ∗ R) ⊢ Wp c (k0_part8 a0 h0 a1 h1 a2 h2 comM h3 cc0_scratch1 cc0_scratch2 c v) Q := by
  rw [k0_part8_eq_skeleton]
  unfold k0_part8_skel
  simp only [semSignalWord, semWaitWord, Prog.lift, Prog.bind_op, Prog.bind_ret, Prog.pure_eq_ret, wp_deviceId]
  refine send_at m ρ K c 11 (k0_dev27_eq c) ?_
  refine send_at m ρ K c 12 (k0_dev28_eq c) ?_
  refine send_at m ρ K c 13 (k0_dev29_eq c) ?_
  exact (h _).trans (ret_intro c)

/-- The last copy and the first waits: `hmid` turns the one phase into the other. -/
theorem part9 {Q : (Σ' (v254 : FVec F S2x64x64x64 .bf16) (v277 : BitVec 32), BitVec 32) → sProp 𝕄} {R R' : sProp 𝕄}
    (v : BitVec 32) (v65 : FVec F S2x64x64x64 .f32) (w u : BitVec 32)
    (hmid : iprop(sendSt m ρ K c 15 ∗ R) ⊢ iprop(recvSt m ρ K c 0 ∗ R'))
    (h : ∀ w, iprop(recvSt m ρ K c 2 ∗ R') ⊢ Q ⟨k0_pay3 v65, w⟩) :
    iprop(sendSt m ρ K c 14 ∗ R) ⊢ Wp c (k0_part9 a0 h0 a1 h1 a2 h2 comM h3 cc0_scratch1 cc0_scratch2 c v v65 w u) Q := by
  rw [k0_part9_eq_skeleton]
  unfold k0_part9_skel
  simp only [semSignalWord, semWaitWord, Prog.lift, Prog.bind_op, Prog.bind_ret, Prog.pure_eq_ret, wp_deviceId]
  refine send_at m ρ K c 14 (k0_dev30_eq c) ?_
  refine hmid.trans ?_
  refine recv_at m ρ K c 0 ?_
  refine recv_at m ρ K c 1 ?_
  exact (h _).trans (ret_intro c)

theorem part10 {Q : PUnit → sProp 𝕄} {R : sProp 𝕄} (v w u : BitVec 32) (h : iprop(recvSt m ρ K c 5 ∗ R) ⊢ Q PUnit.unit) :
    iprop(recvSt m ρ K c 2 ∗ R) ⊢ Wp c (k0_part10 a0 h0 a1 h1 a2 h2 comM h3 cc0_scratch1 cc0_scratch2 c v w u) Q := by
  rw [k0_part10_eq_skeleton]
  unfold k0_part10_skel
  simp only [semSignalWord, semWaitWord, Prog.lift, Prog.bind_op, Prog.bind_ret, Prog.pure_eq_ret, wp_deviceId]
  refine recv_at m ρ K c 2 ?_
  refine recv_at m ρ K c 3 ?_
  refine recv_at m ρ K c 4 ?_
  exact h.trans (ret_intro c)

theorem part11 {Q : PUnit → sProp 𝕄} {R : sProp 𝕄} (v : BitVec 32) (h : iprop(recvSt m ρ K c 8 ∗ R) ⊢ Q PUnit.unit) :
    iprop(recvSt m ρ K c 5 ∗ R) ⊢ Wp c (k0_part11 a0 h0 a1 h1 a2 h2 comM h3 cc0_scratch1 cc0_scratch2 c v) Q := by
  rw [k0_part11_eq_skeleton]
  unfold k0_part11_skel
  simp only [semSignalWord, semWaitWord, Prog.lift, Prog.bind_op, Prog.bind_ret, Prog.pure_eq_ret, wp_deviceId]
  refine recv_at m ρ K c 5 ?_
  refine recv_at m ρ K c 6 ?_
  refine recv_at m ρ K c 7 ?_
  exact h.trans (ret_intro c)

theorem part12 {Q : PUnit → sProp 𝕄} {R : sProp 𝕄} (v : BitVec 32) (h : iprop(recvSt m ρ K c 11 ∗ R) ⊢ Q PUnit.unit) :
    iprop(recvSt m ρ K c 8 ∗ R) ⊢ Wp c (k0_part12 a0 h0 a1 h1 a2 h2 comM h3 cc0_scratch1 cc0_scratch2 c v) Q := by
  rw [k0_part12_eq_skeleton]
  unfold k0_part12_skel
  simp only [semSignalWord, semWaitWord, Prog.lift, Prog.bind_op, Prog.bind_ret, Prog.pure_eq_ret, wp_deviceId]
  refine recv_at m ρ K c 8 ?_
  refine recv_at m ρ K c 9 ?_
  refine recv_at m ρ K c 10 ?_
  exact h.trans (ret_intro c)

theorem part13 {Q : PUnit → sProp 𝕄} {R : sProp 𝕄} (v : BitVec 32) (h : iprop(recvSt m ρ K c 15 ∗ R) ⊢ Q PUnit.unit) :
    iprop(recvSt m ρ K c 11 ∗ R) ⊢ Wp c (k0_part13 a0 h0 a1 h1 a2 h2 comM h3 cc0_scratch1 cc0_scratch2 c v) Q := by
  rw [k0_part13_eq_skeleton]
  unfold k0_part13_skel
  simp only [semSignalWord, semWaitWord, Prog.lift, Prog.bind_op, Prog.bind_ret, Prog.pure_eq_ret, wp_deviceId]
  refine recv_at m ρ K c 11 ?_
  refine recv_at m ρ K c 12 ?_
  refine recv_at m ρ K c 13 ?_
  refine recv_at m ρ K c 14 ?_
  exact h.trans (ret_intro c)

/-- The whole buffer and the projection matrix are read and the output block written; then the first copy is done. -/
theorem part14 {Q : PUnit → sProp 𝕄} {R : sProp 𝕄} (v254 : FVec F S2x64x64x64 .bf16) {q : PosShare TreeShare}
    (h : iprop(doneSt m ρ K c 1 ∗ ((((c : Thread nD τ).loc cc0_scratch0) ↦{q} gath m ρ)
        ∗ (((c : Thread nD τ).loc cc0_stg1_0) ↦{fullShare} wstg m ρ c)
        ∗ (((c : Thread nD τ).loc cc0_stg2_0) ↦{fullShare} k0_pay4 v254 (gath m ρ) (wstg m ρ c)) ∗ R)) ⊢ Q PUnit.unit) :
    iprop(doneSt m ρ K c 0 ∗ ((((c : Thread nD τ).loc cc0_scratch0) ↦{q} gath m ρ)
        ∗ (((c : Thread nD τ).loc cc0_stg1_0) ↦{fullShare} wstg m ρ c)
        ∗ (∃ f, ((c : Thread nD τ).loc cc0_stg2_0) ↦{fullShare} f) ∗ R))
      ⊢ Wp c (k0_part14 a0 h0 (Memref.whole cc0_stg1_0) (Memref.isWhole_whole _) (Memref.whole cc0_stg2_0) (Memref.isWhole_whole _) comM h3 cc0_scratch1 cc0_scratch2 c v254) Q := by
  rw [k0_part14_eq_skeleton]
  unfold k0_part14_skel
  simp only [semSignalWord, semWaitWord, Prog.lift, Prog.bind_op, Prog.bind_ret, Prog.pure_eq_ret, wp_deviceId]
  have hg : (comM : Memref sig .tc .vmem S16x2x128 .f32).view.readAt (Elt F) (Rect.unit (s := S16x2x128) ![0, 0, 0] S16x2x128.size inb_S16x2x128_S16x2x128_0_0_0).toLoadRect
      (gath m ρ) = gath m ρ := Memref.readAt_unit_zero (Elt F) cc0_scratch0 zero3 _ _
  have hw : (Memref.whole cc0_stg1_0).view.readAt (Elt F) (Rect.unit (s := S64x128) ![0, 0] S64x128.size inb_S64x128_S64x128_0_0).toLoadRect
      (wstg m ρ c) = wstg m ρ c := Memref.readAt_unit_zero (Elt F) cc0_stg1_0 zero2 _ _
  iintro ⟨HD, Hg, Hw, ⟨%f, Ho⟩, HR⟩
  iapply (wp_load 𝒱₀ (c : Thread nD τ) none Set.univ (m := comM) (Finset.subset_univ _)) $$ Hg
  iintro Hg
  rw [hg]
  iapply (wp_load 𝒱₀ (c : Thread nD τ) none Set.univ (m := Memref.whole cc0_stg1_0) (Finset.subset_univ _)) $$ Hw
  iintro Hw
  rw [hw]
  iapply (wp_load 𝒱₀ (c : Thread nD τ) none Set.univ (m := Memref.whole cc0_stg2_0) (Finset.subset_univ _)) $$ Ho
  iintro Ho
  iapply (wp_store 𝒱₀ (c : Thread nD τ) none Set.univ (m := Memref.whole cc0_stg2_0)
      (r := Rect.unit (s := S2x64x64x128) ![0, 0, 0, 0] S2x64x64x128.size inb_S2x64x64x128_S2x64x64x128_0_0_0_0) (Mk := Finset.univ) (Finset.subset_univ _)) $$ Ho
  iintro Ho
  rw [write_out]
  iapply (done_at m ρ K c 0 (R := iprop((((c : Thread nD τ).loc cc0_scratch0) ↦{q} gath m ρ)
        ∗ (((c : Thread nD τ).loc cc0_stg1_0) ↦{fullShare} wstg m ρ c)
        ∗ (((c : Thread nD τ).loc cc0_stg2_0) ↦{fullShare} k0_pay4 v254 (gath m ρ) (wstg m ρ c)) ∗ R)) ?_)
  · exact h.trans (ret_intro c)
  · isplitl [HD]; · iexact HD
    isplitl [Hg]; · iexact Hg
    isplitl [Hw]; · iexact Hw
    isplitl [Ho]; · iexact Ho
    iexact HR

theorem part15 {Q : PUnit → sProp 𝕄} {R : sProp 𝕄} (h : iprop(doneSt m ρ K c 6 ∗ R) ⊢ Q PUnit.unit) :
    iprop(doneSt m ρ K c 1 ∗ R) ⊢ Wp c (k0_part15 a0 h0 a1 h1 a2 h2 comM h3 cc0_scratch1 cc0_scratch2 c) Q := by
  rw [k0_part15_eq_skeleton]
  unfold k0_part15_skel
  simp only [semSignalWord, semWaitWord, Prog.lift, Prog.bind_op, Prog.bind_ret, Prog.pure_eq_ret, wp_deviceId]
  refine done_at m ρ K c 1 ?_
  refine done_at m ρ K c 2 ?_
  refine done_at m ρ K c 3 ?_
  refine done_at m ρ K c 4 ?_
  refine done_at m ρ K c 5 ?_
  exact h.trans (ret_intro c)

theorem part16 {Q : PUnit → sProp 𝕄} {R : sProp 𝕄} (h : iprop(doneSt m ρ K c 11 ∗ R) ⊢ Q PUnit.unit) :
    iprop(doneSt m ρ K c 6 ∗ R) ⊢ Wp c (k0_part16 a0 h0 a1 h1 a2 h2 comM h3 cc0_scratch1 cc0_scratch2 c) Q := by
  rw [k0_part16_eq_skeleton]
  unfold k0_part16_skel
  simp only [semSignalWord, semWaitWord, Prog.lift, Prog.bind_op, Prog.bind_ret, Prog.pure_eq_ret, wp_deviceId]
  refine done_at m ρ K c 6 ?_
  refine done_at m ρ K c 7 ?_
  refine done_at m ρ K c 8 ?_
  refine done_at m ρ K c 9 ?_
  refine done_at m ρ K c 10 ?_
  exact h.trans (ret_intro c)

end Parts

end Cert.KernelIdeal.Ring

end
-- ==== Proof.KernelIdealBody.lean ====
/-
# The body

From what the launch gives a device — its block of `x`, the projection matrix, its buffer, its cells' positions, the
duties it pays and its credits — the body runs to its end: the output block written, every row of the buffer back whole,
every cell of the device closed at zero.
-/
module

public import proofs.«01_k».proof.Proof.KernelIdealParts

@[expose] public section

noncomputable section

namespace Cert.KernelIdeal.Ring

open Cert.KernelIdeal Cert.KernelIdeal.Gen Cert.Walk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-! ## Splitting over the devices -/

theorem bigSep_others (Φ : Dev nD → sProp 𝕄) : bigSep Finset.univ Φ = iprop(Φ c ∗ bigSep (others c) Φ) := bigSep_univ_split c

/-- A device's cells: the barrier, its two cells for itself, the cells for the others. -/
theorem bigSep_cells (Φ : CI → sProp 𝕄) :
    bigSep Finset.univ Φ = iprop(Φ (.inl ()) ∗ (Φ (.inr (.inl c)) ∗ bigSep (others c) fun p => Φ (.inr (.inl p)))
      ∗ (Φ (.inr (.inr c)) ∗ bigSep (others c) fun p => Φ (.inr (.inr p)))) := by
  rw [bigSep_univ_sum, bigSep_univ_sum, bigSep_others c, bigSep_others c, bigSep_univ_of_subsingleton ()]
  rfl

/-- The buffer is its rows, at any share. -/
theorem whole_rows (q : PosShare TreeShare) (f : Buf (Elt F) ((c : Thread nD τ).loc cc0_scratch0)) :
    (((c : Thread nD τ).loc cc0_scratch0) ↦{q} f : sProp 𝕄) = bigSep Finset.univ fun s => rowPts c s q f := by
  unfold rowPts
  have h := pointsTo_biUnion (Ix := Unit) (Val := Elt F) (Name := ℕ) (U := UU) (Lvl := ℕ) (ℓ := (c : Thread nD τ).loc cc0_scratch0)
    (q := q) (f := f) (Finset.univ : Finset (Dev nD)) rowSet (fun b _ b' _ h => row_disjoint b b' h)
  rw [← h]
  exact congrArg (fun S => ((((c : Thread nD τ).loc cc0_scratch0) ↦[S]{q} f) : sProp 𝕄)) row_cover.symm

/-- A row held whole is share `c` of it and the fifteen other shares. -/
theorem row_shares (s : Dev nD) (f : Buf (Elt F) ((c : Thread nD τ).loc cc0_scratch0)) :
    (rowPts c s fullShare f : sProp 𝕄) = iprop(rowPts c s (part c) f ∗ bigSep (others c) fun t => rowPts c s (part t) f) := by
  rw [← bigSep_others c (fun t => rowPts c s (part t) f)]
  unfold rowPts part
  exact ShareLeaves.pointsTo_leaves (ℓ := (c : Thread nD τ).loc cc0_scratch0) (rowSet s) f 4 fullShare

/-! ## What the device holds besides the state of its phase -/

/-- The staged projection matrix; the output block. -/
def wPts : sProp 𝕄 := ((c : Thread nD τ).loc cc0_stg1_0) ↦{fullShare} wstg m ρ c
def outPts (f : Buf (Elt F) ((c : Thread nD τ).loc cc0_stg2_0)) : sProp 𝕄 := ((c : Thread nD τ).loc cc0_stg2_0) ↦{fullShare} f

/-- What the body leaves in the output block. -/
def outAt : (cc0_stg2_0 : Ref sig .tc).ty.Contents (Elt F) := k0_pay4 (k0_pay3 (k0_pay1 (xstg m ρ c))) (gath m ρ) (wstg m ρ c)

/-- The positions of the two cells that are never used. -/
def idlePos : sProp 𝕄 := iprop(atPos ER (sendCell c c) 0 ∅ 0 ∗ atPos ER (recvCell c c) 0 ∅ 0)
def sendPos (r : ℕ) : sProp 𝕄 := bigSep (others c) fun p => atPos ER (sendCell c p) r ∅ 0
def recvPos (r : ℕ) : sProp 𝕄 := bigSep (others c) fun p => atPos ER (recvCell c p) r ∅ 0
def sendCreds : sProp 𝕄 := bigSep (others c) fun p => cred (tallyAt (sendCell c p) () N)
def recvCreds : sProp 𝕄 := bigSep (others c) fun p => cred (tallyAt (recvCell c p) () N)
/-- The duties it pays with its copies. -/
def copyToks : sProp 𝕄 :=
  iprop((bigSep (others c) fun p => dutyTok ER (sendCell c p) 0 c) ∗ bigSep (others c) fun p => dutyTok ER (recvCell p c) 0 c)
/-- The shares of the landed rows that the reading of the whole buffer does not need. -/
def spare : sProp 𝕄 := bigSep (others c) fun p => bigSep (others c) fun t => rowPts c p (part t) (gath m ρ)

def held0 : sProp 𝕄 :=
  iprop(copyToks c ∗ idlePos c ∗ sendPos c 0 ∗ recvPos c 0 ∗ recvCreds c ∗ wPts m ρ c ∗ ∃ f, outPts c f)
def held1 : sProp 𝕄 :=
  iprop(xPts m ρ c ∗ rowPts c c (part c) (gath m ρ) ∗ atPos ER (barCell c) 1 ∅ 0 ∗ idlePos c ∗ sendPos c 0 ∗ recvPos c 0 ∗ recvCreds c
    ∗ wPts m ρ c ∗ ∃ f, outPts c f)
def held2 : sProp 𝕄 :=
  iprop(xPts m ρ c ∗ rowPts c c (part c) (gath m ρ) ∗ atPos ER (barCell c) 1 ∅ 0 ∗ idlePos c ∗ sendPos c 0 ∗ sendCreds c
    ∗ wPts m ρ c ∗ ∃ f, outPts c f)
def held3 : sProp 𝕄 := iprop(xPts m ρ c ∗ atPos ER (barCell c) 1 ∅ 0 ∗ idlePos c ∗ recvPos c 1 ∗ spare m ρ c)

/-! ## From phase to phase -/

theorem to_send : iprop(barSt' m ρ K c ∗ (xPts m ρ c ∗ rowPts c c fullShare (gath m ρ) ∗ held0 m ρ c))
    ⊢ iprop(sendSt m ρ K c 0 ∗ held1 m ρ c) := by
  rw [row_shares c c]
  unfold barSt' held0 held1 sendSt copyToks
  rw [walk_zero]
  simp only [bigSep_sep']
  iintro ⟨⟨Hrec, HO, Hat, Hbar⟩, Hx, ⟨Hown, Hsh⟩, ⟨Ht, Ht'⟩, Hid, Hsp, Hrp, Hrc, Hw, Ho⟩
  isplitl [Hrec HO Hbar Hsh Ht Ht']
  · isplitl [Hrec]; · iexact Hrec
    isplitl [HO]; · iexact HO
    isplitl [Ht]; · iexact Ht
    isplitl [Ht']; · iexact Ht'
    isplitl [Hbar]; · iexact Hbar
    iexact Hsh
  isplitl [Hx]; · iexact Hx
  isplitl [Hown]; · iexact Hown
  isplitl [Hat]; · iexact Hat
  isplitl [Hid]; · iexact Hid
  isplitl [Hsp]; · iexact Hsp
  isplitl [Hrp]; · iexact Hrp
  isplitl [Hrc]; · iexact Hrc
  isplitl [Hw]; · iexact Hw
  iexact Ho

theorem to_recv : iprop(sendSt m ρ K c 15 ∗ held1 m ρ c) ⊢ iprop(recvSt m ρ K c 0 ∗ held2 m ρ c) := by
  have hO : owedRow c 15 = (0 : CellTallies nD τ sig Unit) := by unfold owedRow; exact due_full _ _
  unfold held1 held2 sendSt recvSt recvPos recvCreds sendCreds
  rw [walk_full, walk_zero, hO]
  simp only [bigSep_sep']
  iintro ⟨⟨Hrec, HO, Hsc⟩, Hx, Hown, Hat, Hid, Hsp, Hrp, Hrc, Hw, Ho⟩
  isplitl [Hrec HO Hrp Hrc]
  · isplitl [Hrec]; · iexact Hrec
    isplitl [HO]; · iexact HO
    isplitl [Hrc]; · iexact Hrc
    iexact Hrp
  isplitl [Hx]; · iexact Hx
  isplitl [Hown]; · iexact Hown
  isplitl [Hat]; · iexact Hat
  isplitl [Hid]; · iexact Hid
  isplitl [Hsp]; · iexact Hsp
  isplitl [Hsc]; · iexact Hsc
  isplitl [Hw]; · iexact Hw
  iexact Ho

theorem to_done : iprop(recvSt m ρ K c 15 ∗ held2 m ρ c)
    ⊢ iprop(doneSt m ρ K c 0 ∗ ((((c : Thread nD τ).loc cc0_scratch0) ↦{part c} gath m ρ) ∗ wPts m ρ c ∗ (∃ f, outPts c f) ∗ held3 m ρ c)) := by
  have hrows : (bigSep (others c) fun p => rowPts c p fullShare (gath m ρ) : sProp 𝕄)
      = iprop((bigSep (others c) fun p => rowPts c p (part c) (gath m ρ)) ∗ spare m ρ c) := by
    rw [bigSep_congr fun p _ => row_shares c p (gath m ρ), bigSep_sep']
    rfl
  rw [whole_rows, bigSep_others c]
  unfold held2 held3 recvSt doneSt sendPos recvPos sendCreds
  rw [walk_full, walk_zero]
  simp only [bigSep_sep']
  rw [hrows]
  iintro ⟨⟨Hrec, HO, Hrp, Hrow, Hsp⟩, Hx, Hown, Hat, Hid, Hs, Hsc, Hw, Ho⟩
  isplitl [Hrec HO Hs Hsc]
  · isplitl [Hrec]; · iexact Hrec
    isplitl [HO]; · iexact HO
    isplitl [Hsc]; · iexact Hsc
    iexact Hs
  isplitl [Hown Hrow]
  · isplitl [Hown]; · iexact Hown
    iexact Hrow
  isplitl [Hw]; · iexact Hw
  isplitl [Ho]; · iexact Ho
  isplitl [Hx]; · iexact Hx
  isplitl [Hat]; · iexact Hat
  isplitl [Hid]; · iexact Hid
  isplitl [Hrp]; · iexact Hrp
  iexact Hsp

/-! ## The end -/

/-- The round at which each cell of the device stands at the end. -/
def lastRound : CI → ℕ
  | .inl _ => 1
  | .inr (.inl t) => if t = c then 0 else 1
  | .inr (.inr s) => if s = c then 0 else 1

theorem lastRound_send {t : Dev nD} (h : t ≠ c) : lastRound c (.inr (.inl t)) = 1 := if_neg h
theorem lastRound_recv {s : Dev nD} (h : s ≠ c) : lastRound c (.inr (.inr s)) = 1 := if_neg h

theorem lastRound_duties (k : CI) : ∀ r, lastRound c k ≤ r → (sched (F := F) m ρ).duties (kcell (c, k)) r = ∅ := by
  intro r hr
  by_cases h1 : 1 ≤ r
  · exact duties_later m ρ _ r h1
  have hr0 : r = 0 := by omega
  subst hr0
  rcases k with _ | t | s
  · exact absurd hr (by show ¬ (1 ≤ 0); omega)
  · by_cases h : t = c
    · subst h; exact duties_send_self m ρ t
    · rw [lastRound_send c h] at hr; omega
  · by_cases h : s = c
    · subst h; exact duties_recv_self m ρ s
    · rw [lastRound_recv c h] at hr; omega

/-- The device's cells close: each counter is at zero. -/
theorem close_cells : iprop(records m ρ K ∗ atPos ER (barCell c) 1 ∅ 0 ∗ idlePos c ∗ sendPos c 1 ∗ recvPos c 1)
    ⊢ |={Set.univ}=> (bigSep Finset.univ fun k : CI => semVal (kcell (c, k)) 0 : sProp 𝕄) := by
  have hpos : iprop(atPos ER (barCell c) 1 ∅ 0 ∗ idlePos c ∗ sendPos c 1 ∗ recvPos c 1)
      ⊢ (bigSep Finset.univ fun k : CI => atPos ER (kcell (c, k)) (lastRound c k) ∅ 0 : sProp 𝕄) := by
    rw [bigSep_cells c]
    have hs : (bigSep (others c) fun p => atPos ER (kcell (c, .inr (.inl p))) (lastRound c (.inr (.inl p))) ∅ 0 : sProp 𝕄) = sendPos c 1 :=
      bigSep_congr fun p hp => by rw [lastRound_send c (Finset.ne_of_mem_erase hp)]
    have hr : (bigSep (others c) fun p => atPos ER (kcell (c, .inr (.inr p))) (lastRound c (.inr (.inr p))) ∅ 0 : sProp 𝕄) = recvPos c 1 :=
      bigSep_congr fun p hp => by rw [lastRound_recv c (Finset.ne_of_mem_erase hp)]
    have h0 : lastRound c (.inr (.inl c)) = 0 := if_pos rfl
    have h0' : lastRound c (.inr (.inr c)) = 0 := if_pos rfl
    rw [hs, hr, h0, h0']
    unfold idlePos
    iintro ⟨Hb, ⟨H1, H2⟩, Hs, Hr⟩
    isplitl [Hb]; · iexact Hb
    isplitl [H1 Hs]
    · isplitl [H1]; · iexact H1
      iexact Hs
    isplitl [H2]; · iexact H2
    iexact Hr
  refine (sep_mono_right hpos).trans ?_
  refine BI.Entails.trans ?_ (Rounds.cells_close ER (sched m ρ) Finset.univ (fun k : CI => kcell (c, k)) (fun k => K (c, k))
    (fun k _ => Set.mem_univ _) (fun k _ h => h) (lastRound c) (fun k _ => lastRound_duties m ρ c k))
  refine (sep_mono_left (BI.bigSep_of_persistent (Finset.univ : Finset CI) (records m ρ K))).trans ?_
  refine (Entails.of_eq (bigSep_sep' Finset.univ _ _).symm).trans (bigSep_mono fun k _ => ?_)
  show iprop(records m ρ K ∗ atPos ER (kcell (c, k)) (lastRound c k) ∅ 0)
    ⊢ iprop(cellInv ER (sched m ρ) (K (c, k)) (kcell (c, k)) ∗ atPos ER (kcell (c, k)) (lastRound c k) ∅ 0)
  iintro ⟨Hrec, Hat⟩
  ihave Hc := (records_at m ρ K (c, k)) $$ Hrec
  icases Hc with ⟨Hi, -⟩
  isplitl [Hi]; · iexact Hi
  iexact Hat

/-- What the body leaves besides the staging buffers: its buffer whole, and every cell at zero. -/
def Φ₁ : sProp 𝕄 := iprop((∃ f, ((c : Thread nD τ).loc cc0_scratch0) ↦{fullShare} f) ∗ bigSep Finset.univ fun k : CI => semVal (kcell (c, k)) 0)

theorem to_end : iprop(doneSt m ρ K c 15 ∗ ((((c : Thread nD τ).loc cc0_scratch0) ↦{part c} gath m ρ)
        ∗ wPts m ρ c ∗ outPts c (outAt m ρ c) ∗ held3 m ρ c))
    ⊢ |={Set.univ}=> iprop(Φ₁ c ∗ owesE c 0 ∗ xPts m ρ c ∗ wPts m ρ c ∗ outPts c (outAt m ρ c)) := by
  have hrows : iprop(((rowPts c c (part c) (gath m ρ)) ∗ bigSep (others c) fun p => rowPts c c (part p) (gath m ρ))
        ∗ (bigSep (others c) fun p => rowPts c p (part c) (gath m ρ)) ∗ spare m ρ c)
      ⊢ (((c : Thread nD τ).loc cc0_scratch0) ↦{fullShare} gath m ρ : sProp 𝕄) := by
    rw [whole_rows, bigSep_others c, row_shares c c]
    refine sep_mono_right ?_
    rw [bigSep_congr fun p _ => row_shares c p (gath m ρ), bigSep_sep']
    exact BI.Entails.refl _
  rw [whole_rows c (part c), bigSep_others c]
  unfold held3 doneSt
  rw [walk_full]
  simp only [bigSep_sep']
  iintro ⟨⟨Hrec, HO, Hs, Hsh⟩, ⟨Hown, Hrow⟩, Hw, Ho, Hx, Hat, Hid, Hr, Hsp⟩
  imod (close_cells m ρ K c) $$ [Hrec Hat Hid Hs Hr] with Hz
  · isplitl [Hrec]; · iexact Hrec
    isplitl [Hat]; · iexact Hat
    isplitl [Hid]; · iexact Hid
    isplitl [Hs]; · unfold sendPos; iexact Hs
    iexact Hr
  ihave Hg := hrows $$ [Hown Hsh Hrow Hsp]
  · isplitl [Hown Hsh]
    · isplitl [Hown]; · iexact Hown
      iexact Hsh
    isplitl [Hrow]; · iexact Hrow
    iexact Hsp
  imodintro
  unfold Φ₁
  isplitl [Hg Hz]
  · isplitl [Hg]; · iexists gath m ρ; iexact Hg
    iexact Hz
  isplitl [HO]; · iexact HO
  isplitl [Hx]; · iexact Hx
  isplitl [Hw]; · iexact Hw
  iexact Ho

/-! ## The body whole -/

theorem bind_intro {α β : Type} {P : sProp 𝕄} {p : Prog (TpuEff nD τ sig (Elt F) Λ₀ .tc) α} {k : α → Prog (TpuEff nD τ sig (Elt F) Λ₀ .tc) β}
    {Q : β → sProp 𝕄} (h : P ⊢ Wp c p (fun a => Wp c (k a) Q)) : P ⊢ Wp c (p >>= k) Q := by
  show P ⊢ Wp c (Prog.bind p k) Q
  exact h.trans (Entails.of_eq (wp_bind ..).symm)

/-- What the body starts from. -/
def bodyIn : sProp 𝕄 :=
  iprop(sigSt m ρ K c 0 ∗ (xPts m ρ c ∗ (∃ f, rowPts c c fullShare f)
    ∗ (cred (tallyAt (barCell c) () 15) ∗ levAts L lv ∗ atPos ER (barCell c) 0 ∅ 0) ∗ held0 m ρ c))

/-- All but the last wait. -/
theorem most {Q : Dev nD → sProp 𝕄}
    (h : iprop(doneSt m ρ K c 14 ∗ ((((c : Thread nD τ).loc cc0_scratch0) ↦{part c} gath m ρ)
        ∗ wPts m ρ c ∗ outPts c (outAt m ρ c) ∗ held3 m ρ c)) ⊢ Q c) :
    bodyIn m ρ K c ⊢ Wp c (k0_part17 (Memref.whole cc0_stg0_0) (Memref.isWhole_whole _) (Memref.whole cc0_stg1_0) (Memref.isWhole_whole _)
      (Memref.whole cc0_stg2_0) (Memref.isWhole_whole _) comM (Memref.isWhole_whole _) cc0_scratch1 cc0_scratch2) Q := by
  rw [k0_part17_eq_skeleton]
  unfold k0_part17_skel bodyIn
  refine bind_intro c (part1 m ρ K c _ _ _ _ _ _ _ ?_)
  refine bind_intro c (part2 m ρ K c _ _ _ _ _ _ _ _ _ _ ?_)
  refine bind_intro c (part3 m ρ K c _ _ _ _ _ _ _ _ ?_)
  refine (to_send m ρ K c).trans ?_
  refine bind_intro c (part4 m ρ K c _ _ _ _ _ _ _ _ _ ?_)
  refine bind_intro c (part5 m ρ K c _ _ _ _ _ _ _ _ ?_)
  refine bind_intro c (part6 m ρ K c _ _ _ _ _ _ _ _ ?_)
  refine bind_intro c (part7 m ρ K c _ _ _ _ _ _ _ _ ?_)
  refine bind_intro c (part8 m ρ K c _ _ _ _ _ _ _ _ fun w => ?_)
  refine bind_intro c (part9 m ρ K c _ _ _ _ _ _ _ _ _ _ _ (to_recv m ρ K c) fun w => ?_)
  refine bind_intro c (part10 m ρ K c _ _ _ _ _ _ _ _ _ _ ?_)
  refine bind_intro c (part11 m ρ K c _ _ _ _ _ _ _ _ ?_)
  refine bind_intro c (part12 m ρ K c _ _ _ _ _ _ _ _ ?_)
  refine bind_intro c (part13 m ρ K c _ _ _ _ _ _ _ _ ?_)
  refine (to_done m ρ K c).trans ?_
  refine bind_intro c (part14 m ρ K c _ _ _ _ ?_)
  refine bind_intro c (part15 m ρ K c _ _ _ _ _ _ _ ?_)
  refine bind_intro c (part16 m ρ K c _ _ _ _ _ _ _ ?_)
  simp only [Prog.lift, Prog.bind_op, Prog.bind_ret, Prog.pure_eq_ret]
  refine done_at m ρ K c 11 ?_
  refine done_at m ρ K c 12 ?_
  refine done_at m ρ K c 13 ?_
  exact h.trans (ret_intro c)

theorem sound_body {Q : PUnit → sProp 𝕄}
    (h : iprop(Φ₁ c ∗ owesE c 0 ∗ xPts m ρ c ∗ wPts m ρ c ∗ outPts c (outAt m ρ c)) ⊢ Q PUnit.unit) :
    bodyIn m ρ K c ⊢ Wp c (cc0_body (Memref.whole cc0_stg0_0) (Memref.isWhole_whole _) (Memref.whole cc0_stg1_0) (Memref.isWhole_whole _)
      (Memref.whole cc0_stg2_0) (Memref.isWhole_whole _) comM (Memref.isWhole_whole _) cc0_scratch1 cc0_scratch2) Q := by
  rw [cc0_body_eq_skeleton]
  unfold cc0_body_skel
  refine bind_intro c (most m ρ K c ?_)
  simp only [Prog.lift, Prog.bind_op, Prog.bind_ret, Prog.pure_eq_ret]
  refine done_at m ρ K c 14 ?_
  exact (to_end m ρ K c).trans (BI.fupd_mono h)

end Cert.KernelIdeal.Ring

end
-- ==== Proof.KernelIdealLaunch.lean ====
/-
# The launch

The body's obligation, the cells and duties dealt to the devices, the credits each starts with, and the run of the
program: every device's result is what the body leaves, its arguments are as they were, every semaphore is at zero.
-/
module

public import proofs.«01_k».proof.Proof.KernelIdealBody
public import Idealize.ShloMosaic.Lib.Pipeline.CollectiveSegs

@[expose] public section

noncomputable section

namespace Cert.KernelIdeal.Ring

open Cert.KernelIdeal Cert.KernelIdeal.Gen Cert.Walk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The duties device `c` pays: a unit of every other's barrier cell, its own send cells, its row's receive cells. -/
def payToks (c : Dev nD) : sProp 𝕄 := iprop((bigSep (others c) fun p => dutyTok ER (barCell p) 0 c) ∗ copyToks c)

/-- The positions of a device's cells at the start. -/
def allPos (c : Dev nD) : sProp 𝕄 := bigSep Finset.univ fun k : CI => atPos ER (kcell (c, k)) 0 ∅ 0

def ghost (K : Dev nD × CI → ℕ) (c : Dev nD) : sProp 𝕄 := iprop(records m ρ K ∗ allPos c ∗ payToks c)

def start (c : Dev nD) : sProp 𝕄 :=
  iprop((∃ K, ghost m ρ K c) ∗ cred (tallyAt (barCell c) () 15) ∗ recvCreds c ∗ levAts L lv)

def Φ₀ (c : Dev nD) : sProp 𝕄 := iprop(start m ρ c ∗ ∃ f, ((c : Thread nD τ).loc cc0_scratch0) ↦{fullShare} f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (wstg m ρ c)
    ∗ stg c cc0_stg2_0 (outAt m ρ c))

/-- The buffer is given up row by row: the device's own row stays, each other row goes to the device it is meant for. -/
theorem rows_out (c : Dev nD) (f : Buf (Elt F) ((c : Thread nD τ).loc cc0_scratch0)) :
    (((c : Thread nD τ).loc cc0_scratch0) ↦{fullShare} f : sProp 𝕄)
      ⊢ iprop((∃ f, rowPts c c fullShare f) ∗ bigSep (others c) fun p => barPay p c) := by
  rw [whole_rows, bigSep_others c]
  refine BIClass.sep_mono (exists_intro (Φ := fun f => rowPts c c fullShare f) f) (bigSep_mono fun p _ => ?_)
  unfold barPay
  exact exists_intro (Φ := fun f => rowPts c p fullShare f) f

theorem body_start (c : Dev nD) (K : Dev nD × CI → ℕ) (f : Buf (Elt F) ((c : Thread nD τ).loc cc0_scratch0)) :
    iprop(ghost m ρ K c ∗ (cred (tallyAt (barCell c) () 15) ∗ recvCreds c ∗ levAts L lv)
        ∗ (((c : Thread nD τ).loc cc0_scratch0) ↦{fullShare} f) ∗ owesE c (O₀ c) ∗ xPts m ρ c ∗ wPts m ρ c ∗ ∃ f, outPts c f)
      ⊢ bodyIn m ρ K c := by
  unfold ghost allPos payToks bodyIn held0 sigSt O₀ idlePos sendPos recvPos
  rw [walk_zero, bigSep_cells c]
  simp only [bigSep_sep']
  iintro ⟨⟨Hrec, ⟨Hab, ⟨Has, Hsp⟩, Har, Hrp⟩, Hbt, Hct⟩, ⟨Hcb, Hcr, Hlev⟩, Hbuf, HO, Hx, Hw, Ho⟩
  ihave Hr := (rows_out c f) $$ Hbuf
  icases Hr with ⟨Hown, Hrows⟩
  isplitl [Hrec HO Hbt Hrows]
  · isplitl [Hrec]; · iexact Hrec
    isplitl [HO]; · iexact HO
    isplitl [Hbt]; · iexact Hbt
    iexact Hrows
  isplitl [Hx]; · iexact Hx
  isplitl [Hown]; · iexact Hown
  isplitl [Hcb Hlev Hab]
  · isplitl [Hcb]; · iexact Hcb
    isplitl [Hlev]; · iexact Hlev
    iexact Hab
  isplitl [Hct]; · iexact Hct
  isplitl [Has Har]
  · isplitl [Has]; · iexact Has
    iexact Har
  isplitl [Hsp]; · iexact Hsp
  isplitl [Hrp]; · iexact Hrp
  isplitl [Hcr]; · iexact Hcr
  isplitl [Hw]; · iexact Hw
  iexact Ho

theorem body_end (c : Dev nD) :
    iprop(Φ₁ c ∗ owesE c 0 ∗ xPts m ρ c ∗ wPts m ρ c ∗ outPts c (outAt m ρ c)) ⊢ bodyPost m ρ c := by
  unfold bodyPost xPts wPts outPts owesE Dat.owesAt Pipeline.owesWithin
  rw [show (dats m ρ 0 c).owed t₀.succ = 0 from rfl]
  iintro ⟨HΦ, ⟨%W, HO⟩, Hx, Hw, Ho⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) comM (Memref.isWhole_whole _) cc0_scratch1 cc0_scratch2) (fun _ => bodyPost m ρ c)
  unfold bodyPre Φ₀ start
  iintro ⟨⟨⟨⟨%K, Hg⟩, Hcr⟩, ⟨%f, Hbuf⟩⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx hw
  unfold Dat.owesAt Pipeline.owesWithin
  icases Ho with ⟨%W, %hW, HO⟩
  rw [show (dats m ρ 0 c).owed t₀.castSucc = O₀ c from rfl]
  iapply (sound_body m ρ K c (Q := fun _ => bodyPost m ρ c) (body_end m ρ c))
  iapply (body_start m ρ c K f)
  isplitl [Hg]; · iexact Hg
  isplitl [Hcr]; · iexact Hcr
  isplitl [Hbuf]; · iexact Hbuf
  isplitl [HO]; · unfold owesE; iexists W; iexact HO
  isplitl [Hx]; · unfold xPts; iexact Hx
  isplitl [Hw]; · unfold wPts; iexact Hw
  iexists g2; unfold outPts; iexact Hout

/-! ## Cells and duties dealt -/

abbrev osem : Dev nD ⊕ Dev nD → SemLoc sig
  | .inl t => .dma (sendQ t)
  | .inr s => .dma (recvQ s)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  intro k k' h
  rcases k with u | t | s <;> rcases k' with u' | t' | s'
  · cases u; cases u'; rfl
  · exact absurd (congrArg role h) (by show role (.reg barS) ≠ role (.dma (sendQ t')); rw [role_bar, role_send]; intro h; cases h)
  · exact absurd (congrArg role h) (by show role (.reg barS) ≠ role (.dma (recvQ s')); rw [role_bar, role_recv]; intro h; cases h)
  · exact absurd (congrArg role h) (by show role (.dma (sendQ t)) ≠ role (.reg barS); rw [role_bar, role_send]; intro h; cases h)
  · injection h with h'; rw [sendQ_inj h']
  · exact absurd (congrArg role h) (by show role (.dma (sendQ t)) ≠ role (.dma (recvQ s')); rw [role_send, role_recv]; intro h; cases h)
  · exact absurd (congrArg role h) (by show role (.dma (recvQ s)) ≠ role (.reg barS); rw [role_bar, role_recv]; intro h; cases h)
  · exact absurd (congrArg role h) (by show role (.dma (recvQ s)) ≠ role (.dma (sendQ t')); rw [role_send, role_recv]; intro h; cases h)
  · injection h with h'; rw [recvQ_inj h']

theorem kcell_injective : Function.Injective (kcell : Dev nD × CI → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]

def ringCells : Finset (GSem nD τ sig) := Finset.univ.map ⟨kcell, kcell_injective⟩

/-- The tokens minted for a device's own cells: a barrier duty for each device, a send duty for each cell, a receive
    duty for each cell. -/
abbrev TI : Type := Dev nD ⊕ (Dev nD ⊕ Dev nD)
abbrev tokOf (cj : Dev nD × TI) : GSem nD τ sig × ℕ × Dev nD := match cj.2 with
  | .inl d => (barCell cj.1, 0, d)
  | .inr (.inl t) => (sendCell cj.1 t, 0, cj.1)
  | .inr (.inr s) => (recvCell cj.1 s, 0, s)

theorem tokOf_injective : Function.Injective (tokOf : Dev nD × TI → GSem nD τ sig × ℕ × Dev nD) := by
  rintro ⟨c, j⟩ ⟨c', j'⟩ h
  let kOf : TI → CI := fun j => match j with | .inl _ => .inl () | .inr (.inl t) => .inr (.inl t) | .inr (.inr s) => .inr (.inr s)
  have hk : ∀ (c : Dev nD) (j : TI), (tokOf (c, j)).1 = kcell (c, kOf j) := by rintro c (d | t | s) <;> rfl
  have h1 := kcell_injective ((hk c j).symm.trans ((congrArg Prod.fst h).trans (hk c' j')))
  have hc : c = c' := congrArg Prod.fst h1
  have hj : kOf j = kOf j' := congrArg Prod.snd h1
  subst hc
  rcases j with d | t | s <;> rcases j' with d' | t' | s'
  · have : d = d' := congrArg (fun x : GSem nD τ sig × ℕ × Dev nD => x.2.2) h
    rw [this]
  · exact absurd hj (fun h => by cases h)
  · exact absurd hj (fun h => by cases h)
  · exact absurd hj (fun h => by cases h)
  · have : t = t' := by injection hj with hj; injection hj
    rw [this]
  · exact absurd hj (fun h => by cases h)
  · exact absurd hj (fun h => by cases h)
  · exact absurd hj (fun h => by cases h)
  · have : s = s' := by injection hj with hj; injection hj
    rw [this]

def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 := bigSep Finset.univ fun j : TI => dutyTok ER (tokOf (c, j)).1 (tokOf (c, j)).2.1 (tokOf (c, j)).2.2

/-- What the launch gives device `c`. -/
def G (c : Dev nD) : sProp 𝕄 :=
  iprop((bigSep Finset.univ fun k : CI => roundState ER (sched m ρ) (kcell (c, k)) 0)
    ∗ (allPos c ∗ bigSep Finset.univ fun k : CI => reached ER (kcell (c, k)) 0) ∗ toks c)

def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G allPos; simp only [bigSep_sep']
  isplitl [Hst']; · iexact Hst'
  isplitl [Hat' Hr']
  · isplitl [Hat']; · iexact Hat'
    iexact Hr'
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells at zero: its own semaphores, and the barrier's. -/
theorem sems0_eq (c : Dev nD) :
    (bigSep Finset.univ fun k : CI => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_univ_sum, bigSep_univ_of_subsingleton ()]
  unfold Pipeline.ownSems0
  rw [bigSep_univ_sum, bigSep_univ_sum]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (sched m ρ) κ (kcell (c, k))))
          ∗ (allPos c ∗ bigSep Finset.univ fun k : CI => reached ER (kcell (c, k)) 0) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CI => semVal (kcell (c, k)) 0) ∗ bigSep Finset.univ fun k : CI => roundState ER (sched m ρ) (kcell (c, k)) 0)
      ⊢ (|={Set.univ}=> bigSep Finset.univ fun k : CI => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens change hands: a barrier duty goes to the device it is named by, a receive duty to the row's sender. -/
theorem toks_around : (bigSep Finset.univ fun c : Dev nD => (toks c : sProp 𝕄)) ⊢ bigSep Finset.univ fun c : Dev nD => payToks c := by
  have h1 : ∀ c : Dev nD, (toks c : sProp 𝕄)
      ⊢ iprop((bigSep (others c) fun d => dutyTok ER (barCell c) 0 d) ∗ (bigSep (others c) fun t => dutyTok ER (sendCell c t) 0 c)
        ∗ bigSep (others c) fun s => dutyTok ER (recvCell c s) 0 s) := by
    intro c
    unfold toks
    rw [bigSep_univ_sum, bigSep_univ_sum]
    exact sep_mono (bigSep_subset (Finset.subset_univ _)) (sep_mono (bigSep_subset (Finset.subset_univ _)) (bigSep_subset (Finset.subset_univ _)))
  refine (bigSep_mono fun c _ => h1 c).trans ?_
  unfold payToks copyToks
  rw [bigSep_sep', bigSep_sep', bigSep_sep', bigSep_sep']
  rw [bigSep_erase_comm fun c d : Dev nD => (dutyTok ER (barCell c) 0 d : sProp 𝕄),
    bigSep_erase_comm fun c s : Dev nD => (dutyTok ER (recvCell c s) 0 s : sProp 𝕄)]
  exact BI.Entails.refl _

theorem regroup :
    (bigSep Finset.univ fun c : Dev nD => iprop((bigSep Finset.univ fun k : CI => iprop(∃ κ : ℕ, cellInv ER (sched m ρ) κ (kcell (c, k))))
          ∗ (allPos c ∗ bigSep Finset.univ fun k : CI => reached ER (kcell (c, k)) 0) ∗ toks c) : sProp 𝕄)
      ⊢ bigSep Finset.univ (G' m ρ) := by
  rw [bigSep_sep', bigSep_sep', bigSep_sep', ← bigSep_univ_prod (fun ck : Dev nD × CI => iprop(∃ κ : ℕ, cellInv ER (sched m ρ) κ (kcell ck))),
    ← bigSep_univ_prod (fun ck : Dev nD × CI => (reached ER (kcell ck) 0 : sProp 𝕄))]
  iintro ⟨HI, ⟨Hat, HR⟩, Htok⟩
  ihave HK := (BI.bigSep_exists_pi Finset.univ (fun (ck : Dev nD × CI) (κ : ℕ) => (cellInv ER (sched m ρ) κ (kcell ck) : sProp 𝕄))) $$ HI
  icases HK with ⟨%K, HI⟩
  ihave Htk := (toks_around (F := F)) $$ Htok
  have hrec : iprop((bigSep Finset.univ fun ck : Dev nD × CI => (cellInv ER (sched m ρ) (K ck) (kcell ck) : sProp 𝕄))
      ∗ bigSep Finset.univ fun ck : Dev nD × CI => reached ER (kcell ck) 0) ⊢ records m ρ K := by
    unfold records; rw [bigSep_sep']
  ihave Hrec := hrec $$ [HI HR]
  · isplitl [HI]; · iexact HI
    iexact HR
  have hG : iprop(records m ρ K ∗ (bigSep Finset.univ fun c : Dev nD => allPos c) ∗ bigSep Finset.univ fun c : Dev nD => payToks c)
      ⊢ bigSep Finset.univ (G' m ρ) := by
    refine (sep_mono_left (BI.bigSep_of_persistent (Finset.univ : Finset (Dev nD)) (records m ρ K))).trans ?_
    refine (sep_mono_right (Entails.of_eq (bigSep_sep' Finset.univ _ _).symm)).trans ?_
    refine (Entails.of_eq (bigSep_sep' Finset.univ _ _).symm).trans (bigSep_mono fun c _ => ?_)
    unfold G' ghost
    exact exists_intro (Φ := fun K => iprop(records m ρ K ∗ allPos c ∗ payToks c)) K
  iapply hG
  isplitl [Hrec]; · iexact Hrec
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem kcell_eq_iff {a b : Dev nD} {k l : CI} : (kcell (a, k) = kcell (b, l)) ↔ (a = b ∧ k = l) :=
  ⟨fun h => by have := kcell_injective h; exact ⟨congrArg Prod.fst this, congrArg Prod.snd this⟩, fun ⟨h, h'⟩ => by rw [h, h']⟩

/-- What device `d` owes cell `k` of device `c`. -/
theorem owed_at (d c : Dev nD) (k : CI) :
    O₀ d (kcell (c, k)) () = (if c ∈ others d ∧ k = .inr (.inr d) then N else 0) + if c ∈ others d ∧ k = .inl () then 1 else 0 := by
  have key : ∀ (l : CI) (n : ℕ), (∑ p ∈ others d, (tallyAt (kcell (p, l)) () n : CellTallies nD τ sig Unit)) (kcell (c, k)) ()
      = if c ∈ others d ∧ k = l then n else 0 := by
    intro l n
    rw [Finset.sum_apply, Finsupp.finset_sum_apply]
    rw [Finset.sum_congr rfl fun p _ => show _ = if c = p then (if k = l then n else 0) else 0 from by
      rw [tallyAt_apply]
      by_cases h : c = p
      · subst h
        by_cases h' : k = l
        · subst h'; rw [if_pos ⟨rfl, rfl⟩, if_pos rfl, if_pos rfl]
        · rw [if_neg fun h => h' (kcell_eq_iff.mp h.1).2, if_pos rfl, if_neg h']
      · rw [if_neg fun h' => h (kcell_eq_iff.mp h'.1).1, if_neg h]]
    rw [Finset.sum_ite_eq]
    by_cases h : c ∈ others d <;> by_cases h' : k = l <;> simp [h, h']
  unfold O₀ owedRow owedBar
  rw [due_zero, due_zero, Pi.add_apply, Finsupp.add_apply]
  exact congrArg₂ (· + ·) (key (.inr (.inr d)) N) (key (.inl ()) 1)

theorem mem_others_comm (c d : Dev nD) : c ∈ others d ↔ d ∈ others c := by
  unfold others; simp only [Finset.mem_erase, Finset.mem_univ, and_true]; exact ⟨fun h => h.symm, fun h => h.symm⟩

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same]
  rw [Finset.sum_congr rfl fun d _ => show O₀ d (barCell c) () = if d ∈ others c then 1 else 0 from by
    have h := owed_at d c (.inl ())
    rw [if_neg (fun h => by cases h.2), Nat.zero_add] at h
    refine h.trans ?_
    by_cases hd : d ∈ others c
    · rw [if_pos ⟨(mem_others_comm c d).mpr hd, rfl⟩, if_pos hd]
    · rw [if_neg fun h => hd ((mem_others_comm c d).mp h.1), if_neg hd]]
  rw [Finset.sum_ite_mem, Finset.univ_inter, Finset.sum_const, Finset.card_erase_of_mem (Finset.mem_univ c), Finset.card_univ, Fintype.card_fin]
  rfl

theorem launch_recv (c s : Dev nD) (hs : s ∈ others c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same]
  rw [Finset.sum_congr rfl fun d _ => show O₀ d (recvCell c s) () = if d = s then N else 0 from by
    have h := owed_at d c (.inr (.inr s))
    rw [if_neg (c := c ∈ others d ∧ (Sum.inr (Sum.inr s) : CI) = .inl ()) (fun h => by cases h.2), Nat.add_zero] at h
    refine h.trans ?_
    by_cases hd : d = s
    · subst hd; rw [if_pos ⟨(mem_others_comm c d).mpr hs, rfl⟩, if_pos rfl]
    · rw [if_neg fun h => hd (by have := h.2; injection this with this; injection this with this; exact this.symm), if_neg hd]]
  rw [Finset.sum_ite_eq', if_pos (Finset.mem_univ _)]

theorem creds (c : Dev nD) :
    (Pipeline.launchCred O₀ c : sProp 𝕄) ⊢ iprop(cred (tallyAt (barCell c) () 15) ∗ recvCreds c) := by
  unfold Pipeline.launchCred recvCreds
  rw [bigSep_univ_at _ (SemLoc.reg barS), launch_bar]
  refine sep_mono_right ?_
  let e : Dev nD ↪ SemLoc sig := ⟨fun s => .dma (recvQ s), fun s s' h => recvQ_inj (by injection h)⟩
  refine (bigSep_subset (t := (others c).map e) ?_).trans ?_
  · intro sm hsm
    obtain ⟨s, -, rfl⟩ := Finset.mem_map.mp hsm
    exact Finset.mem_erase.mpr ⟨(fun h => nomatch h), Finset.mem_univ _⟩
  · rw [bigSep_map]
    exact bigSep_mono fun s hs => Entails.of_eq (congrArg cred (launch_recv c s hs))

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems0_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The program from any memory: it ends, each device's arrays as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Ring

end
-- ==== Proof.Moments.lean ====
/-
  The arithmetic both programs are read down to, about real numbers and about the extended reals the
  ideal programs compute in.

  Both programs average a `1024 x 64` image per sample and channel. The kernel adds it up from sixteen
  bands of 64 rows, and takes the variance as the mean of the squares less the square of the mean; the
  reference adds up the whole image, and takes the mean of the squared distances from the mean. Both then
  normalise, and weigh the normalised value by its own logistic.
-/
module

public import Idealize.ShloMosaic.Lib.Pointwise
public import Idealize.ShloMosaic.PureOps.Ideal

@[expose] public section

noncomputable section

namespace Cert.Moments

open Idealize.ShloMosaic

/-! ## A sum over the two middle axes -/

section Image

variable {n : Nat}

/-- An index reduces to sample `b`, channel `k` when those are its outer coordinates. -/
theorem drop_eq_iff (h : (⟨4, ![2, n, 64, 64]⟩ : Shape).ReducesTo [1, 2] ⟨2, ![2, 64]⟩) (b : Fin 2) (k : Fin 64)
    (i : (⟨4, ![2, n, 64, 64]⟩ : Shape).Idx) : h.drop i = ix2 b k ↔ ∃ p : Fin n × Fin 64, ix4 b p.1 p.2 k = i := by
  constructor
  · intro e
    have e0 : i 0 = b := Fin.ext (congrArg Fin.val (congrFun e 0))
    have e3 : i 3 = k := Fin.ext (congrArg Fin.val (congrFun e 1))
    refine ⟨(i 1, i 2), ?_⟩
    subst e0; subst e3
    funext a
    match a with
    | ⟨0, _⟩ => rfl
    | ⟨1, _⟩ => rfl
    | ⟨2, _⟩ => rfl
    | ⟨3, _⟩ => rfl
  · rintro ⟨p, rfl⟩
    funext a
    match a with
    | ⟨0, _⟩ => rfl
    | ⟨1, _⟩ => rfl

/-- So what reduces to it is the image of that sample and channel. -/
theorem sum_image (h : (⟨4, ![2, n, 64, 64]⟩ : Shape).ReducesTo [1, 2] ⟨2, ![2, 64]⟩)
    (v : (⟨4, ![2, n, 64, 64]⟩ : Shape).Idx → EReal) (b : Fin 2) (k : Fin 64) :
    ∑ i ∈ Finset.univ.filter (fun i => h.drop i = ix2 b k), v i = ∑ p : Fin n × Fin 64, v (ix4 b p.1 p.2 k) :=
  Finset.sum_filter_eq_sum_of_fiber _ (fun p : Fin n × Fin 64 => ix4 b p.1 p.2 k)
    (fun _ _ e => Prod.ext (congrFun e 1) (congrFun e 2)) (drop_eq_iff h b k) v

/-- The host's sum, from an initial value. -/
theorem host_sum (h : (⟨4, ![2, n, 64, 64]⟩ : Shape).ReducesTo [1, 2] ⟨2, ![2, 64]⟩)
    (v : (⟨4, ![2, n, 64, 64]⟩ : Shape).Idx → EReal) (z : EReal) (b : Fin 2) (k : Fin 64) :
    Ideal.hostReduceAdd h v z (ix2 b k) = z + ∑ p : Fin n × Fin 64, v (ix4 b p.1 p.2 k) :=
  congrArg (z + ·) (sum_image h v b k)

/-- The core's sum. -/
theorem core_sum (h : (⟨4, ![2, n, 64, 64]⟩ : Shape).Reduces [1, 2] ⟨2, ![2, 64]⟩)
    (v : (⟨4, ![2, n, 64, 64]⟩ : Shape).Idx → EReal) (b : Fin 2) (k : Fin 64) :
    Ideal.reduceAdd h v (ix2 b k) = ∑ p : Fin n × Fin 64, v (ix4 b p.1 p.2 k) :=
  sum_image h.reducesTo v b k

end Image

/-! ## Sums of reals -/

/-- A sum of reals is the same sum of extended reals. -/
theorem coe_total {ι : Type} [Fintype ι] (f : ι → ℝ) : ∑ i, (f i : EReal) = ((∑ i, f i : ℝ) : EReal) :=
  (map_sum (⟨⟨Real.toEReal, EReal.coe_zero⟩, EReal.coe_add⟩ : ℝ →+ EReal) f Finset.univ).symm

/-- Row `i` of band `s`, in the whole image. -/
def row (s : Fin 16) (i : Fin 64) : Fin 1024 := ⟨s.val * 64 + i.val, by omega⟩

/-- The whole image is its sixteen bands. -/
def bands : Fin 16 × (Fin 64 × Fin 64) ≃ Fin 1024 × Fin 64 where
  toFun q := (row q.1 q.2.1, q.2.2)
  invFun p := (⟨p.1.val / 64, by omega⟩, (⟨p.1.val % 64, by omega⟩, p.2))
  left_inv q := by
    rcases q with ⟨s, i, j⟩
    refine Prod.ext (Fin.ext ?_) (Prod.ext (Fin.ext ?_) rfl) <;> simp only [row] <;> omega
  right_inv p := by
    rcases p with ⟨i, j⟩
    refine Prod.ext (Fin.ext ?_) rfl
    simp only [row]; omega

/-- A sum over the bands is the sum over the image. -/
theorem sum_bands (f : Fin 1024 → Fin 64 → ℝ) :
    ∑ s : Fin 16, ∑ p : Fin 64 × Fin 64, f (row s p.1) p.2 = ∑ p : Fin 1024 × Fin 64, f p.1 p.2 :=
  (Fintype.sum_prod_type' _).symm.trans (Equiv.sum_comp bands fun p => f p.1 p.2)

section Spread

variable {ι : Type} [Fintype ι] (f : ι → ℝ) (N : ℝ)

/-- The mean of the squares less the square of the mean is the mean squared distance from the mean. -/
theorem spread (hN : (Fintype.card ι : ℝ) = N) (h0 : N ≠ 0) :
    (∑ i, f i * f i) * (1 / N) - (∑ i, f i) * (1 / N) * ((∑ i, f i) * (1 / N))
      = (∑ i, (f i - (∑ j, f j) * (1 / N)) * (f i - (∑ j, f j) * (1 / N))) * (1 / N) := by
  generalize hS : ∑ j, f j = S
  have hx : ∀ i, (f i - S * (1 / N)) * (f i - S * (1 / N))
      = f i * f i - 2 * (S * (1 / N)) * f i + S * (1 / N) * (S * (1 / N)) := fun i => by ring
  simp only [hx, Finset.sum_add_distrib, Finset.sum_sub_distrib, ← Finset.mul_sum, Finset.sum_const,
    Finset.card_univ, nsmul_eq_mul, hN, hS]
  field_simp
  ring

/-- A mean squared distance is not negative. -/
theorem spread_nonneg (h0 : 0 < N) (μ : ℝ) : 0 ≤ (∑ i, (f i - μ) * (f i - μ)) * (1 / N) :=
  mul_nonneg (Finset.sum_nonneg fun i _ => mul_self_nonneg _) (one_div_nonneg.2 h0.le)

end Spread

/-! ## Normalising, and the gate -/

section Gate

/-- The kernel's scaling by a reciprocal root is the reference's division by the root. -/
theorem scaled {v : ℝ} (hv : 0 < v) (d : ℝ) :
    (d : EReal) * Ideal.rsqrt (v : EReal) = ((d * (1 / √v) : ℝ) : EReal)
      ∧ Ideal.div (d : EReal) (Ideal.sqrt (v : EReal)) = ((d * (1 / √v) : ℝ) : EReal) := by
  have hr : √v ≠ 0 := (Real.sqrt_pos.2 hv).ne'
  constructor
  · rw [Ideal.rsqrt_coe, if_neg hv.le.not_gt, if_neg hv.ne', ← EReal.coe_mul, one_div]
  · rw [Ideal.sqrt_coe, if_neg hv.le.not_gt, Ideal.div_coe hr, ← EReal.coe_mul]

/-- A real weighed by its logistic is the real over one plus the exponential of its negation. -/
theorem gate (r : ℝ) : (r : EReal) * Ideal.logistic (r : EReal) = Ideal.div (r : EReal) (1 + Ideal.exp (-(r : EReal))) := by
  have he : (1 : EReal) + Ideal.exp (-(r : EReal)) = ((1 + Real.exp (-r) : ℝ) : EReal) := by
    rw [← EReal.coe_neg, Ideal.exp_coe, EReal.coe_add, EReal.coe_one]
  have h0 : (1 + Real.exp (-r) : ℝ) ≠ 0 := (add_pos one_pos (Real.exp_pos _)).ne'
  rw [Ideal.logistic, he, Ideal.div_coe h0, Ideal.div_coe h0, one_mul]

end Gate

/-! ## The programs' literals -/

/-- The image's size, `1024 * 64`. -/
theorem size_lit : Ideal.ofBits .f32 0x47800000#32 = ((65536 : ℝ) : EReal) := by
  simp [Ideal.ofBits, Ideal.ieee, -EReal.coe_mul]; norm_num

/-- Its reciprocal. -/
theorem share_lit : Ideal.ofBits .f32 0x37800000#32 = ((1 / 65536 : ℝ) : EReal) := by
  simp [Ideal.ofBits, Ideal.ieee, -EReal.coe_mul]; norm_num

/-- Infinity. -/
theorem inf_lit : Ideal.ofBits .f32 0x7F800000#32 = ⊤ := by
  simp [Ideal.ofBits, Ideal.ieee]

/-- The small number added to the variance. -/
theorem eps_lit : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

end Cert.Moments
-- ==== Proof.RefValue.lean ====
/-
  The reference's result, read element by element at the ideal values.
-/
module

public import proofs.«01_k».proof.Proof.Moments
public import proofs.«01_k».proof.Proof.Gen.ReferenceIdeal.Run

@[expose] public section

noncomputable section

namespace Cert.ReferenceIdeal.Value

open Cert.ReferenceIdeal Cert.ReferenceIdeal.Gen Cert.Moments Idealize.ShloMosaic
open Idealize.ShloMosaic.TcCoe Idealize.SL.Sem

variable (x : FVec Ideal S2x1024x64x64 .f32) (w : FVec Ideal S64x128 .f32)

/-! ## The reference's steps -/

/-- The sums of each sample's and channel's image. -/
def total (y : FVec Ideal S2x1024x64x64 .f32) : FVec Ideal S2x1x1x64 .f32 :=
  broadcastInDim S2x1x1x64 ![0, 3] bcast_S2x64_S2x1x1x64_0_3
    (Host.reduceAdd y (constant S_ .f32 0x00000000#32) reducesTo_S2x1024x64x64_S2x64_d1_2 h_S_)

/-- The means. -/
def mean : FVec Ideal S2x1x1x64 .f32 :=
  Host.divf (total x) (broadcastInDim S2x1x1x64 ![] bcast_S_S2x1x1x64 (constant S_ .f32 0x47800000#32))

/-- The distances from the mean. -/
def cent : FVec Ideal S2x1024x64x64 .f32 :=
  subf x (broadcastInDim S2x1024x64x64 ![0, 1, 2, 3] bcast_S2x1x1x64_S2x1024x64x64_0_1_2_3 (mean x))

/-- How many elements the variance divides by: the image's size, less no correction. -/
def count : FVec Ideal S_ .f32 := subf (constant S_ .f32 0x47800000#32) (sitofp .f32 (constantI S_ 32 0#32))

/-- The variances. -/
def var : FVec Ideal S2x1x1x64 .f32 :=
  select (broadcastInDim S2x1x1x64 ![] bcast_S_S2x1x1x64 (cmpf .ogt count (constant S_ .f32 0x00000000#32)))
    (Host.divf (total (mulf (cent x) (cent x))) (broadcastInDim S2x1x1x64 ![] bcast_S_S2x1x1x64 count))
    (broadcastInDim S2x1x1x64 ![] bcast_S_S2x1x1x64 (id (constant S_ .f32 0x7FC00000#32)))

/-- The normalised values. -/
def norm : FVec Ideal S2x1024x64x64 .f32 :=
  Host.divf (cent x) (broadcastInDim S2x1024x64x64 ![0, 1, 2, 3] bcast_S2x1x1x64_S2x1024x64x64_0_1_2_3
    (Host.sqrt (addf (var x) (broadcastInDim S2x1x1x64 ![] bcast_S_S2x1x1x64 (constant S_ .f32 0x3727C5AC#32)))))

/-- The gated values. -/
def act : FVec Ideal S2x1024x64x64 .f32 :=
  Host.divf (norm x) (addf (broadcastInDim S2x1024x64x64 ![] bcast_S_S2x1024x64x64 (constant S_ .f32 0x3F800000#32))
    (Host.exp (Host.negf (norm x))))

/-- Their projection. -/
def proj (a : FVec Ideal S2x1024x64x64 .f32) : FVec Ideal S2x1024x64x128 .bf16 :=
  truncf .bf16 (shapeCast S2x1024x64x128 (Host.dotGeneral dot_S131072x64_S64x128_S131072x128_1_0_0_1_n_n none
    (shapeCast S131072x64 a shapeCasts_S2x1024x64x64_S131072x64) w) shapeCasts_S131072x128_S2x1024x64x128) bitsLt_bf16_f32

/-- The result is the projection of the gated values. -/
theorem res_eq (m : (ℓ : Loc nD τ sig) → Buf (Elt Ideal) ℓ) (c : Dev nD) :
    res_main_v20 (F := Ideal) m c = proj (m ((c.tc : Thread nD τ).loc main_arg1)) (act (m ((c.tc : Thread nD τ).loc main_arg0))) := rfl

/-! ## Element by element -/

set_option maxRecDepth 16384

theorem total_apply (b : Fin 2) (k : Fin 64) : total x (ix4 b 0 0 k) = ∑ p : Fin 1024 × Fin 64, x (ix4 b p.1 p.2 k) := by
  have h : total x (ix4 b 0 0 k) = Ideal.hostReduceAdd reducesTo_S2x1024x64x64_S2x64_d1_2 x 0 (ix2 b k) := by
    pointwise [total]
  rw [h, host_sum, zero_add]

theorem mean_apply (b : Fin 2) (k : Fin 64) :
    mean x (ix4 b 0 0 k) = Ideal.div (total x (ix4 b 0 0 k)) ((65536 : ℝ) : EReal) := by
  rw [← size_lit]; pointwise [mean]

theorem cent_apply (b : Fin 2) (i : Fin 1024) (j k : Fin 64) :
    cent x (ix4 b i j k) = x (ix4 b i j k) - mean x (ix4 b 0 0 k) := by
  pointwise [cent]

theorem var_apply (b : Fin 2) (k : Fin 64) :
    var x (ix4 b 0 0 k) = Ideal.div (total (mulf (cent x) (cent x)) (ix4 b 0 0 k)) ((65536 : ℝ) : EReal) := by
  have hc : Ideal.ofBits .f32 0x47800000#32 - (FloatOps.sitofp (F := Ideal) .f32 (0#32 : BitVec 32) : EReal) = ((65536 : ℝ) : EReal) := by
    rw [size_lit]
    have h0 : (FloatOps.sitofp (F := Ideal) .f32 (0#32 : BitVec 32) : EReal) = 0 := by simp [FloatOps.sitofp]
    rw [h0, sub_zero]
  have hp : (0 : EReal) < ((65536 : ℝ) : EReal) := EReal.coe_pos.2 (by norm_num)
  pointwise [var, count]
  rw [hc, if_pos hp]

theorem norm_apply (b : Fin 2) (i : Fin 1024) (j k : Fin 64) :
    norm x (ix4 b i j k)
      = Ideal.div (cent x (ix4 b i j k)) (Ideal.sqrt (var x (ix4 b 0 0 k) + Ideal.ofBits .f32 0x3727C5AC#32)) := by
  pointwise [norm]

theorem act_apply (b : Fin 2) (i : Fin 1024) (j k : Fin 64) :
    act x (ix4 b i j k) = Ideal.div (norm x (ix4 b i j k)) (1 + Ideal.exp (-(norm x (ix4 b i j k)))) := by
  pointwise [act]

theorem proj_apply (a : FVec Ideal S2x1024x64x64 .f32) (b : Fin 2) (i : Fin 1024) (j : Fin 64) (o : Fin 128) :
    proj w a (ix4 b i j o) = ∑ k : Fin 64, a (ix4 b i j k) * w (ix2 k o) := by
  pointwise [proj]

/-! ## At real elements -/

section Real

variable (X : Fin 2 → Fin 1024 → Fin 64 → Fin 64 → ℝ)

/-- The mean of an image. -/
def mu (b : Fin 2) (k : Fin 64) : ℝ := (∑ p : Fin 1024 × Fin 64, X b p.1 p.2 k) * (1 / 65536)

/-- Its variance. -/
def sigma (b : Fin 2) (k : Fin 64) : ℝ :=
  (∑ p : Fin 1024 × Fin 64, (X b p.1 p.2 k - mu X b k) * (X b p.1 p.2 k - mu X b k)) * (1 / 65536)

theorem sigma_nonneg (b : Fin 2) (k : Fin 64) : 0 ≤ sigma X b k :=
  spread_nonneg (fun p : Fin 1024 × Fin 64 => X b p.1 p.2 k) 65536 (by norm_num) (mu X b k)

variable {x X} (hx : ∀ b i j k, x (ix4 b i j k) = (X b i j k : EReal))
include hx

theorem mean_real (b : Fin 2) (k : Fin 64) : mean x (ix4 b 0 0 k) = (mu X b k : EReal) := by
  rw [mean_apply, total_apply, Ideal.div_coe (by norm_num), mu, EReal.coe_mul, ← coe_total]
  simp only [hx]

theorem cent_real (b : Fin 2) (i : Fin 1024) (j k : Fin 64) :
    cent x (ix4 b i j k) = ((X b i j k - mu X b k : ℝ) : EReal) := by
  rw [cent_apply, hx, mean_real hx, EReal.coe_sub]

theorem var_real (b : Fin 2) (k : Fin 64) : var x (ix4 b 0 0 k) = (sigma X b k : EReal) := by
  have hm : ∀ i, mulf (cent x) (cent x) i = (cent x i * cent x i : EReal) := fun _ => rfl
  rw [var_apply, total_apply, Ideal.div_coe (by norm_num), sigma, EReal.coe_mul, ← coe_total]
  simp only [hm, cent_real hx, EReal.coe_mul]

/-- The normalised value is a real. -/
theorem norm_real {e : ℝ} (he : 0 < e) (hl : Ideal.ofBits .f32 0x3727C5AC#32 = (e : EReal)) (b : Fin 2) (i : Fin 1024)
    (j k : Fin 64) : norm x (ix4 b i j k) = (((X b i j k - mu X b k) * (1 / √(sigma X b k + e)) : ℝ) : EReal) := by
  rw [norm_apply, cent_real hx, var_real hx, hl, ← EReal.coe_add]
  exact (scaled (add_pos_of_nonneg_of_pos (sigma_nonneg X b k) he) _).2

end Real

end Cert.ReferenceIdeal.Value
-- ==== Proof.KernelIdealValue.lean ====
/-
  What the kernel leaves in its result array, and that over the reals it is each device's block of the
  reference's result.
-/
module

public import proofs.«01_k».proof.Defs
public import proofs.«01_k».proof.Proof.Moments
public import proofs.«01_k».proof.Proof.RefValue
public import proofs.«01_k».proof.Proof.KernelIdealLaunch

@[expose] public section

noncomputable section

namespace Cert.KernelIdeal.Ring

open Cert.KernelIdeal Cert.KernelIdeal.Gen Cert.Moments

open Idealize.ShloMosaic
open Idealize.ShloMosaic.TcCoe
open Idealize.SL Idealize.SL.Sem

/-! ## The arrays -/

section Arrays

variable {F : FTy → Type} [FloatOps F]
variable (m : (ℓ : Loc nD τ sig) → Buf (Elt F) ℓ) (ρ : Dev nD → PrngReg)

/-- Each window's one block is its whole array. -/
theorem read_x (c : Dev nD) (f : Buf (Elt F) ((c : Thread nD τ).loc main_arg0)) :
    (win0_0.blk t0_0).view.read (Elt F) f = f :=
  Memref.read_access_unit_zero (Elt F) main_arg0 (funext fun a => by fin_cases a <;> decide) (fun a => by fin_cases a <;> decide) f
theorem read_w (c : Dev nD) (f : Buf (Elt F) ((c : Thread nD τ).loc main_arg1)) :
    (win0_1.blk t0_0).view.read (Elt F) f = f :=
  Memref.read_access_unit_zero (Elt F) main_arg1 (funext fun a => by fin_cases a <;> decide) (fun a => by fin_cases a <;> decide) f
theorem read_o (c : Dev nD) (f : Buf (Elt F) ((c : Thread nD τ).loc main_v1)) :
    (win0_2.blk t0_0).view.read (Elt F) f = f :=
  Memref.read_access_unit_zero (Elt F) main_v1 (funext fun a => by fin_cases a <;> decide) (fun a => by fin_cases a <;> decide) f

theorem xstg_eq (c : Dev nD) : xstg m ρ c = m ((c : Thread nD τ).loc main_arg0) := read_x c _
theorem wstg_eq (c : Dev nD) : wstg m ρ c = m ((c : Thread nD τ).loc main_arg1) := read_w c _

/-- The result array ends holding what the body left in its staging buffer. -/
theorem finalA_o (c : Dev nD) : finalA m ρ c (2 : Fin 3) = outAt m ρ c := by
  refine (read_o c _).symm.trans ?_
  unfold finalA
  rw [show cfg0.N = t0_0.val + 1 from rfl, (dats m ρ 0 c).arrAt_succ (2 : Fin 3) t0_0, flush0_2, if_pos rfl]
  exact View.read_write_univ _ _

end Arrays

/-! ## Element by element -/

set_option maxRecDepth 16384

/-- A device's row: the sums of its block in the first 64 lanes, -/
theorem row_sum (x : FVec Ideal S2x64x64x64 .f32) (b : Fin 2) (k : Fin 64) (h : k.val < 128) :
    k0_pay2 (F := Ideal) x (ix3 (0 : Fin 1) b ⟨k.val, h⟩) = ∑ p : Fin 64 × Fin 64, x (ix4 b p.1 p.2 k) := by
  have h' : k0_pay2 (F := Ideal) x (ix3 (0 : Fin 1) b ⟨k.val, h⟩) = Ideal.reduceAdd reduces_S2x64x64x64_S2x64 x (ix2 b k) := by
    pointwise [k0_pay2, k0_pay1]
  rw [h', core_sum]

/-- and the sums of the squares in the other 64. -/
theorem row_sq (x : FVec Ideal S2x64x64x64 .f32) (b : Fin 2) (k : Fin 64) (h : 64 + k.val < 128) :
    k0_pay2 (F := Ideal) x (ix3 (0 : Fin 1) b ⟨64 + k.val, h⟩)
      = ∑ p : Fin 64 × Fin 64, (x (ix4 b p.1 p.2 k) * x (ix4 b p.1 p.2 k) : EReal) := by
  have h' : k0_pay2 (F := Ideal) x (ix3 (0 : Fin 1) b ⟨64 + k.val, h⟩)
      = Ideal.reduceAdd reduces_S2x64x64x64_S2x64 (mulf x x) (ix2 b k) := by
    pointwise [k0_pay2, k0_pay1]
  rw [h', core_sum]; rfl

/-- A row of the gathered buffer is what that device computed. -/
theorem gath_apply (m : (ℓ : Loc nD τ sig) → Buf (Elt Ideal) ℓ) (ρ : Dev nD → PrngReg) (s : Fin 16) (b : Fin 2) (k : Fin 128) :
    gath m ρ (ix3 s b k) = k0_pay2 (F := Ideal) (xstg m ρ s) (ix3 (0 : Fin 1) b k) := by
  have h : inRow (ix3 s b k) = ix3 (0 : Fin 1) b k := by
    funext a
    match a with
    | ⟨0, _⟩ => rfl
    | ⟨1, _⟩ => rfl
    | ⟨2, _⟩ => rfl
  unfold gath
  exact congrArg (k0_pay2 (F := Ideal) (xstg m ρ s)) h

/-- The gathered mean of a sample's channel, -/
def gmean (g : FVec Ideal S16x2x128 .f32) (b : Fin 2) (k : Fin 64) : EReal :=
  (∑ s : Fin 16, g (ix3 s b ⟨k.val, by omega⟩)) * Ideal.ofBits .f32 0x37800000#32

/-- and the gathered mean of the squares. -/
def gsq (g : FVec Ideal S16x2x128 .f32) (b : Fin 2) (k : Fin 64) : EReal :=
  (∑ s : Fin 16, g (ix3 s b ⟨64 + k.val, by omega⟩)) * Ideal.ofBits .f32 0x37800000#32

/-- The normalised value. -/
def gnorm (x : FVec Ideal S2x64x64x64 .bf16) (g : FVec Ideal S16x2x128 .f32) (b : Fin 2) (i j k : Fin 64) : EReal :=
  (x (ix4 b i j k) - gmean g b k)
    * Ideal.rsqrt (gsq g b k - gmean g b k * gmean g b k + Ideal.ofBits .f32 0x3727C5AC#32)

theorem pay4_apply (x : FVec Ideal S2x64x64x64 .bf16) (g : FVec Ideal S16x2x128 .f32) (w : FVec Ideal S64x128 .f32) (b : Fin 2)
    (i j : Fin 64) (o : Fin 128) :
    k0_pay4 (F := Ideal) x g w (ix4 b i j o)
      = ∑ k : Fin 64, gnorm x g b i j k * Ideal.logistic (gnorm x g b i j k) * w (ix2 k o) := by
  unfold gnorm gsq gmean
  pointwise [k0_pay4]

/-- The narrowing of `x` is exact at the ideal values. -/
theorem narrow (x : FVec Ideal S2x64x64x64 .f32) (i : S2x64x64x64.Idx) :
    (k0_pay3 (F := Ideal) (k0_pay1 x) i : EReal) = x i := by
  pointwise [k0_pay3, k0_pay1]

/-! ## At real elements -/

section Real

variable (m : (ℓ : Loc nD τ sig) → Buf (Elt Ideal) ℓ) (ρ : Dev nD → PrngReg)
variable {X : Fin 2 → Fin 1024 → Fin 64 → Fin 64 → ℝ}

/-- Device `s`'s block is band `s` of the real image `X`. -/
def Bands (m : (ℓ : Loc nD τ sig) → Buf (Elt Ideal) ℓ) (ρ : Dev nD → PrngReg) (X : Fin 2 → Fin 1024 → Fin 64 → Fin 64 → ℝ) : Prop :=
  ∀ (s : Fin 16) (b : Fin 2) (i j k : Fin 64), (xstg m ρ s : FVec Ideal S2x64x64x64 .f32) (ix4 b i j k) = (X b (row s i) j k : EReal)

variable {m ρ} (hX : Bands m ρ X)
include hX

theorem gmean_real (b : Fin 2) (k : Fin 64) : gmean (gath m ρ) b k = (Cert.ReferenceIdeal.Value.mu X b k : EReal) := by
  rw [gmean, share_lit, Cert.ReferenceIdeal.Value.mu, EReal.coe_mul, ← sum_bands fun i j => X b i j k, ← coe_total]
  refine congrArg (· * _) (Finset.sum_congr rfl fun s _ => ?_)
  rw [gath_apply, row_sum, ← coe_total]
  exact Finset.sum_congr rfl fun p _ => hX s b p.1 p.2 k

theorem gsq_real (b : Fin 2) (k : Fin 64) :
    gsq (gath m ρ) b k = (((∑ p : Fin 1024 × Fin 64, X b p.1 p.2 k * X b p.1 p.2 k) * (1 / 65536) : ℝ) : EReal) := by
  rw [gsq, share_lit, EReal.coe_mul, ← sum_bands fun i j => X b i j k * X b i j k, ← coe_total]
  refine congrArg (· * _) (Finset.sum_congr rfl fun s _ => ?_)
  rw [gath_apply, row_sq, ← coe_total]
  exact Finset.sum_congr rfl fun p _ => by rw [hX s b p.1 p.2 k, EReal.coe_mul]

/-- The kernel's variance is the reference's. -/
theorem gvar_real (b : Fin 2) (k : Fin 64) :
    gsq (gath m ρ) b k - gmean (gath m ρ) b k * gmean (gath m ρ) b k = (Cert.ReferenceIdeal.Value.sigma X b k : EReal) := by
  rw [gsq_real hX, gmean_real hX, ← EReal.coe_mul, ← EReal.coe_sub]
  exact congrArg _ (spread (fun p : Fin 1024 × Fin 64 => X b p.1 p.2 k) 65536 (by simp) (by norm_num))

theorem gnorm_real {e : ℝ} (he : 0 < e) (hl : Ideal.ofBits .f32 0x3727C5AC#32 = (e : EReal)) (c : Fin 16) (b : Fin 2) (i j k : Fin 64) :
    gnorm (k0_pay3 (k0_pay1 (xstg m ρ c))) (gath m ρ) b i j k
      = (((X b (row c i) j k - Cert.ReferenceIdeal.Value.mu X b k) * (1 / √(Cert.ReferenceIdeal.Value.sigma X b k + e)) : ℝ) : EReal) := by
  rw [gnorm, gvar_real hX, gmean_real hX, hl, narrow, hX, ← EReal.coe_sub, ← EReal.coe_add]
  exact (scaled (add_pos_of_nonneg_of_pos (Cert.ReferenceIdeal.Value.sigma_nonneg X b k) he) _).1

/-- The result at an index, from the whole image and the weights. -/
theorem out_apply {x : FVec Ideal Cert.ReferenceIdeal.S2x1024x64x64 .f32} (w : FVec Ideal S64x128 .f32)
    (hx : ∀ b i j k, x (ix4 b i j k) = (X b i j k : EReal)) (c : Fin 16) (hw : wstg m ρ c = w) (b : Fin 2) (i j : Fin 64) (o : Fin 128) :
    (outAt m ρ c : FVec Ideal S2x64x64x128 .bf16) (ix4 b i j o)
      = Cert.ReferenceIdeal.Value.proj w (Cert.ReferenceIdeal.Value.act x) (ix4 b (row c i) j o) := by
  obtain ⟨e, he, hl⟩ := eps_lit
  refine (pay4_apply _ _ _ b i j o).trans ?_
  rw [Cert.ReferenceIdeal.Value.proj_apply]
  refine Finset.sum_congr rfl fun k _ => ?_
  rw [gnorm_real hX he hl, Cert.ReferenceIdeal.Value.act_apply, Cert.ReferenceIdeal.Value.norm_real hx he hl, gate, hw]

end Real

/-! ## The blocks -/

/-- An index is its coordinates. -/
theorem idx4 {n0 n1 n2 n3 : Nat} (i : (⟨4, ![n0, n1, n2, n3]⟩ : Shape).Idx) : i = ix4 (i 0) (i 1) (i 2) (i 3) := by
  funext a
  match a with
  | ⟨0, _⟩ => rfl
  | ⟨1, _⟩ => rfl
  | ⟨2, _⟩ => rfl
  | ⟨3, _⟩ => rfl

/-- Band `c` of the whole image is device `c`'s block: where an element of it lies. -/
theorem tile_idx {n : Nat} (h : Layout.Tiles ⟨4, ![2, 64, 64, n]⟩ ⟨4, ![2, 1024, 64, n]⟩ 1 16) (c : Fin 16) (b : Fin 2) (i j : Fin 64)
    (k : Fin n) : h.idx c (ix4 b i j k) = ix4 b (row c i) j k := by
  funext a
  apply Fin.ext
  match a with
  | ⟨0, _⟩ => rfl
  | ⟨1, _⟩ => rfl
  | ⟨2, _⟩ => rfl
  | ⟨3, _⟩ => rfl

/-- A number whose magnitude is below infinity is a real. -/
theorem real_of_abs_lt {a : EReal} (h : max a (-a) < ⊤) : ∃ r : ℝ, a = (r : EReal) := by
  induction a with
  | bot => simp at h
  | top => simp at h
  | coe r => exact ⟨r, rfl⟩

/-- Where the precondition holds, every element of every device's block of `x` is a real. -/
theorem real_of_pre [Cert.Pre_finite_x_KernelIdeal.Facts] {m : (ℓ : Loc nD τ sig) → Buf (Elt Ideal) ℓ}
    (h : Cert.Pre_KernelIdeal_finite_x_KernelIdeal m) (c : Dev nD) (i : S2x64x64x64.Idx) :
    ∃ r : ℝ, (m ((c.tc : Thread nD τ).loc main_arg0) : FVec Ideal S2x64x64x64 .f32) i = (r : EReal) := by
  have e := congrFun (h c) i
  refine real_of_abs_lt ?_
  pointwise [Cert.Pre_finite_x_KernelIdeal.fn] at e
  rw [inf_lit] at e
  refine of_decide_eq_true (p := max _ _ < (⊤ : EReal)) ?_
  exact (by decide : ∀ q : Bool, BitVec.ofBool q = 1#1 → q = true) _ e

/-- So the whole image is real: each element of it is in the block of one device. -/
theorem image_real [Cert.Pre_finite_x_KernelIdeal.Facts] {m : (ℓ : Loc nD τ sig) → Buf (Elt Ideal) ℓ}
    (h : Cert.Pre_KernelIdeal_finite_x_KernelIdeal m) (x : FVec Ideal Cert.ReferenceIdeal.S2x1024x64x64 .f32)
    (hm : ∀ c : Dev nD, m ((c.tc : Thread nD τ).loc main_arg0) = Layout.block ⟨4, ![2, 64, 64, 64]⟩ ⟨4, ![2, 1024, 64, 64]⟩ 1 16 c x) :
    ∃ X : Fin 2 → Fin 1024 → Fin 64 → Fin 64 → ℝ, ∀ b i j k, x (ix4 b i j k) = (X b i j k : EReal) := by
  have key : ∀ b i j k, ∃ r : ℝ, x (ix4 b i j k) = (r : EReal) := by
    intro b i j k
    obtain ⟨⟨s, i'⟩, hs⟩ : ∃ q : Fin 16 × Fin 64, row q.1 q.2 = i :=
      ⟨((bands.symm (i, j)).1, (bands.symm (i, j)).2.1), congrArg Prod.fst (bands.apply_symm_apply (i, j))⟩
    obtain ⟨r, hr⟩ := real_of_pre h s (ix4 b i' j k)
    refine ⟨r, ?_⟩
    rw [hm s, Layout.block_apply, tile_idx, hs] at hr
    exact hr
  choose X hX using key
  exact ⟨X, hX⟩

/-- The kernel's result on each device is its block of the reference's. -/
theorem out_block [Cert.Pre_finite_x_KernelIdeal.Facts] {m : (ℓ : Loc nD τ sig) → Buf (Elt Ideal) ℓ} (ρ : Dev nD → PrngReg)
    (h : Cert.Pre_KernelIdeal_finite_x_KernelIdeal m) (x : FVec Ideal Cert.ReferenceIdeal.S2x1024x64x64 .f32)
    (w : FVec Ideal S64x128 .f32)
    (hm : ∀ c : Dev nD, m ((c.tc : Thread nD τ).loc main_arg0) = Layout.block ⟨4, ![2, 64, 64, 64]⟩ ⟨4, ![2, 1024, 64, 64]⟩ 1 16 c x)
    (hw : ∀ c : Dev nD, m ((c.tc : Thread nD τ).loc main_arg1) = w) (c : Dev nD) :
    outAt m ρ c = Layout.block ⟨4, ![2, 64, 64, 128]⟩ ⟨4, ![2, 1024, 64, 128]⟩ 1 16 c
      (Cert.ReferenceIdeal.Value.proj w (Cert.ReferenceIdeal.Value.act x)) := by
  obtain ⟨X, hx⟩ := image_real h x hm
  have hX : Bands m ρ X := fun s b i j k => by
    rw [xstg_eq, hm s, Layout.block_apply, tile_idx, hx]
  funext i
  obtain ⟨b, r, j, o, rfl⟩ : ∃ (b : Fin 2) (r j : Fin 64) (o : Fin 128), (i : S2x64x64x128.Idx) = ix4 b r j o :=
    ⟨_, _, _, _, idx4 (n0 := 2) (n1 := 64) (n2 := 64) (n3 := 128) i⟩
  refine (out_apply hX w hx c ((wstg_eq m ρ c).trans (hw c)) b r j o).trans ?_
  exact congrArg _ (tile_idx (n := 128) (by decide) c b r j o).symm

end Cert.KernelIdeal.Ring
-- ==== Proof.lean ====
/-
  The certificate: the kernel, as printed and as idealised, ends with its arguments unchanged and every
  semaphore at zero; so does the reference; and where `x` is finite the idealised kernel leaves on each
  device its block of the reference's result.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.KernelIdealLaunch
public import proofs.«01_k».proof.Proof.KernelIdealValue
public import proofs.«01_k».proof.Proof.RefValue
public import Idealize.ShloMosaic.Lib.Quiescent
public import Idealize.ShloMosaic.Lib.Claim

@[expose] public section

noncomputable section

namespace Cert.Proof

open Idealize.ShloMosaic Idealize.SL.Sem

/-! ## The predicates' side conditions -/

theorem pre_kernel_facts : Cert.Pre_finite_x_KernelIdeal.Facts := ⟨by decide⟩
theorem pre_reference_facts : Cert.Pre_finite_x_ReferenceIdeal.Facts := ⟨by decide⟩

/-! ## The two prints of the kernel

The ideal pass rewrites no operation of this kernel, so its two prints are one program, and what is proved of
the one at any float type is proved of the other. -/

section Prints

variable {F : FTy → Type} [FloatOps F]

theorem same_bodies : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem same_defs : Cert.Kernel.defs (F := F) = Cert.KernelIdeal.defs (F := F) :=
  congrArg (Pipeline.defs (Cert.KernelIdeal.pcfgs (F := F))) same_bodies

theorem same_main : Cert.Kernel.main (F := F) = Cert.KernelIdeal.main (F := F) := rfl

end Prints

/-! ## The frames -/

/-- The kernel's frame, at any float type. -/
theorem ring_frame {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  θ_run_mono (Cert.KernelIdeal.Ring.run_main m g) fun r h =>
    ⟨fun c => ⟨(h.1 c 0).trans (Cert.KernelIdeal.Ring.finalA_x m g c), (h.1 c 1).trans (Cert.KernelIdeal.Ring.finalA_w m g c)⟩, h.2⟩

theorem kernel_frame : Cert.quiescent_Kernel := fun m g _ => by
  rw [same_defs, same_main]
  exact ring_frame m g

theorem kernelIdeal_frame : Cert.quiescent_KernelIdeal := fun m g _ => ring_frame m g

/-- The reference's program has no semaphores. -/
theorem reference_frame : Cert.quiescent_ReferenceIdeal := fun m g _ =>
  θ_run_mono (Cert.ReferenceIdeal.Value.run m g) fun r h => ⟨fun c => (h c).2, sem_eq_zero_of_no_sems rfl _⟩

/-! ## The value -/

theorem values [hP : Cert.Pre_finite_x_KernelIdeal.Facts] : Cert.algebraic_KernelIdeal_ReferenceIdeal_pre_finite_x_KernelIdeal :=
  fun m g m' g' hpre hm =>
    ⟨Cert.ReferenceIdeal.Value.res_main_v20 m' 0,
      θ_run_mono (Cert.KernelIdeal.Ring.run_main m g) fun r h c =>
        ⟨(h.1 c 2).trans ((Cert.KernelIdeal.Ring.finalA_o m g c).trans
            (Cert.KernelIdeal.Ring.out_block g hpre _ _ (fun c => (hm c).1) (fun c => (hm c).2) c)),
          (h.1 c 0).trans (Cert.KernelIdeal.Ring.finalA_x m g c), (h.1 c 1).trans (Cert.KernelIdeal.Ring.finalA_w m g c)⟩,
      θ_run_mono (Cert.ReferenceIdeal.Value.run m' g') fun r h => h 0⟩

/-- Everything the certificate claims. -/
theorem claim : Cert.Claim :=
  ⟨Cert.Kernel.Gen.facts, Cert.KernelIdeal.Gen.facts, Cert.ReferenceIdeal.Gen.facts, pre_kernel_facts, pre_reference_facts,
    kernel_frame, kernelIdeal_frame, fun m g _ => kernelIdeal_frame m g trivial, reference_frame,
    fun m g _ => reference_frame m g trivial, trivial, values (hP := pre_kernel_facts)⟩

end Cert.Proof

end
